-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partial_products_bounded_KernelIdeal [hPre_partial_products_bounded_KernelIdeal : Cert.Pre_partial_products_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partial_products_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partial_products_bounded_ReferenceIdeal [hPre_partial_products_bounded_ReferenceIdeal : Cert.Pre_partial_products_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partial_products_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partial_products_bounded_KernelIdeal [hKernelIdeal : Cert.KernelIdeal.Facts] [hPre_partial_products_bounded_KernelIdeal : Cert.Pre_partial_products_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partial_products_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partial_products_bounded_ReferenceIdeal [hReferenceIdeal : Cert.ReferenceIdeal.Facts] [hPre_partial_products_bounded_ReferenceIdeal : Cert.Pre_partial_products_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partial_products_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v6) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_pre_partial_products_bounded_KernelIdeal [hKernelIdeal : Cert.KernelIdeal.Facts] [hReferenceIdeal : Cert.ReferenceIdeal.Facts] [hPre_partial_products_bounded_KernelIdeal : Cert.Pre_partial_products_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partial_products_bounded_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hPre_partial_products_bounded_KernelIdeal : Cert.Pre_partial_products_bounded_KernelIdeal.Facts) (hPre_partial_products_bounded_ReferenceIdeal : Cert.Pre_partial_products_bounded_ReferenceIdeal.Facts),
    quiescent_Kernel (hKernel := hKernel)
    ∧ quiescent_KernelIdeal (hKernelIdeal := hKernelIdeal)
    ∧ quiescent_KernelIdeal_pre_partial_products_bounded_KernelIdeal (hKernelIdeal := hKernelIdeal) (hPre_partial_products_bounded_KernelIdeal := hPre_partial_products_bounded_KernelIdeal)
    ∧ quiescent_ReferenceIdeal (hReferenceIdeal := hReferenceIdeal)
    ∧ quiescent_ReferenceIdeal_pre_partial_products_bounded_ReferenceIdeal (hReferenceIdeal := hReferenceIdeal) (hPre_partial_products_bounded_ReferenceIdeal := hPre_partial_products_bounded_ReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_pre_partial_products_bounded_KernelIdeal (hKernelIdeal := hKernelIdeal) (hReferenceIdeal := hReferenceIdeal) (hPre_partial_products_bounded_KernelIdeal := hPre_partial_products_bounded_KernelIdeal)
-- ==== Pre_partial_products_bounded_KernelIdeal.lean ====
abbrev S4096x512 : Shape := ⟨2, ![4096, 512]⟩
abbrev S512x8192 : Shape := ⟨2, ![512, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x512_S512x8192_S4096x8192_1_0_0_1_n_n_wf : DotDims.WF S4096x512 S512x8192 S4096x8192 [1] [0] [0] [1] [] []

variable [Facts]

def dot_S4096x512_S512x8192_S4096x8192_1_0_0_1_n_n : DotDims S4096x512 S512x8192 S4096x8192 where
  lhsContracting := [1]
  rhsContracting := [0]
  lhsNonContracting := [0]
  rhsNonContracting := [1]
  lhsBatch := []
  rhsBatch := []
  wf := dot_S4096x512_S512x8192_S4096x8192_1_0_0_1_n_n_wf
def fn {F : FTy → Type} [FloatOps F] (main_arg0 : FVec F S4096x512 .bf16) (main_arg1 : FVec F S512x8192 .bf16) : IVec S_ 1 :=
  let main_v0 : FVec F S4096x8192 .f32 := (fun l r => Host.dotGeneral dot_S4096x512_S512x8192_S4096x8192_1_0_0_1_n_n none l r) main_arg0 main_arg1
  let main_v1 : FVec F S4096x8192 .f32 := Host.absf main_v0
  let main_cst : FVec F S_ .f32 := constant S_ .f32 0x40F00000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Pre_partial_products_bounded_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .bf16) (main_arg1 : FVec F S4096x8192 .bf16) : IVec S_ 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x40F00000#32
  let main_v2 : FVec F S4096x8192 .f32 := broadcastInDim S4096x8192 ![] bcast_S_S4096x8192 main_cst
  let main_v3 : IVec S4096x8192 1 := cmpf .ole main_v1 main_v2
  let main_c : IVec S_ 1 := constantI S_ 1 1#1
  let main_v4 : IVec S_ 1 := (fun x v => Host.reduce IntOp.andi x v reducesTo_S4096x8192_S_d0_1 h_S_) main_v3 main_c
  main_v4
-- ==== Kernel.lean ====
abbrev S4096x512 : Shape := ⟨2, ![4096, 512]⟩
abbrev S512x8192 : Shape := ⟨2, ![512, 8192]⟩
abbrev S4096x8192 : Shape := ⟨2, ![4096, 8192]⟩
abbrev S256x8192 : Shape := ⟨2, ![256, 8192]⟩
abbrev S_ : Shape := ⟨0, ![]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .local _ .vmem, ⟨0, _⟩ => ⟨S4096x512, .bf16⟩
  | .local _ .vmem, ⟨1, _⟩ => ⟨S512x8192, .bf16⟩
  | .local _ .vmem, ⟨2, _⟩ => ⟨S512x8192, .bf16⟩
  | .local _ .vmem, ⟨3, _⟩ => ⟨S256x8192, .bf16⟩
  | .local _ .vmem, ⟨4, _⟩ => ⟨S256x8192, .bf16⟩
  | .local _ .vmem, ⟨5, _⟩ => ⟨S256x8192, .bf16⟩
  | .local _ .vmem, ⟨6, _⟩ => ⟨S256x8192, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 3 7 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_18 : BitVec 32 := 1#32
  let v35 : BitVec 32 := Scalar.muli v33 c1_i32_18
  let v36 : BitVec 32 := Scalar.addi c0_i32_19 v35
  v36.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_21 : BitVec 32 := 1#32
  let v37 : BitVec 32 := Scalar.muli v19 c1_i32_21
  let v38 : BitVec 32 := Scalar.addi c0_i32_22 v37
  v38.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_23 : BitVec 32 := 1#32
  let v39 : BitVec 32 := Scalar.subi v5 c1_i32_23
  let c8_i32_24 : BitVec 32 := 8#32
  let c0_i32_25 : BitVec 32 := 0#32
  let v40 : BitVec 1 := Scalar.cmpi .eq c8_i32_24 c0_i32_25
  let c1_i32_26 : BitVec 32 := 1#32
  let v41 : BitVec 32 := Scalar.select v40 c1_i32_26 c8_i32_24
  let v42 : BitVec 32 := Scalar.remsi v39 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  let c512_i32 : BitVec 32 := 512#32
  let v50 : BitVec 32 := Scalar.muli v49 c512_i32
  let v51 : Index := Scalar.indexCast v50
  let c0 : Index := 0#32
  ![v51.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_34 : BitVec 32 := 1#32
  let v61 : BitVec 32 := Scalar.addi v5 c1_i32_34
  let c8_i32_35 : BitVec 32 := 8#32
  let c0_i32_36 : BitVec 32 := 0#32
  let v62 : BitVec 1 := Scalar.cmpi .eq c8_i32_35 c0_i32_36
  let c1_i32_37 : BitVec 32 := 1#32
  let v63 : BitVec 32 := Scalar.select v62 c1_i32_37 c8_i32_35
  let v64 : BitVec 32 := Scalar.remsi v61 v63
  let c0_i32_39 : BitVec 32 := 0#32
  let v66 : BitVec 1 := Scalar.cmpi .slt v64 c0_i32_39
  let c0_i32_40 : BitVec 32 := 0#32
  let v67 : BitVec 1 := Scalar.cmpi .slt v63 c0_i32_40
  let v68 : BitVec 1 := Scalar.xori v66 v67
  let c0_i32_38 : BitVec 32 := 0#32
  let v65 : BitVec 1 := Scalar.cmpi .ne v64 c0_i32_38
  let v69 : BitVec 1 := Scalar.andi v68 v65
  let v70 : BitVec 32 := Scalar.addi v64 v63
  let v71 : BitVec 32 := Scalar.select v69 v70 v64
  let c512_i32_41 : BitVec 32 := 512#32
  let v72 : BitVec 32 := Scalar.muli v71 c512_i32_41
  let c256_i32 : BitVec 32 := 256#32
  let v73 : BitVec 32 := Scalar.addi v72 c256_i32
  let v74 : Index := Scalar.indexCast v73
  let c0_42 : Index := 0#32
  ![v74.toNat, 0]
@[reducible] def k0_t1_loop : Scf.Loop 32 :=
  let c0_i32_48 : BitVec 32 := 0#32
  let c7_i32 : BitVec 32 := 7#32
  let v84 : BitVec 32 := Scalar.addi c0_i32_48 c7_i32
  let c1_i32_49 : BitVec 32 := 1#32
  ⟨c0_i32_48, v84, c1_i32_49⟩
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_72 : BitVec 32 := 1#32
  let v112 : BitVec 32 := Scalar.muli v19 c1_i32_72
  let v113 : BitVec 32 := Scalar.addi c0_i32_73 v112
  v113.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_74 : BitVec 32 := 1#32
  let v114 : BitVec 32 := Scalar.muli v33 c1_i32_74
  let v115 : BitVec 32 := Scalar.addi c0_i32_75 v114
  v115.toNat
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_76 : BitVec 32 := 2#32
  let v116 : BitVec 32 := Scalar.subi v5 c2_i32_76
  let c0_i32_48 : BitVec 32 := 0#32
  let c1_i32_49 : BitVec 32 := 1#32
  let arg15 : BitVec 32 := Scf.iv c0_i32_48 c1_i32_49 k0_t1
  let v117 : BitVec 32 := Scalar.subi v116 arg15
  let c8_i32_77 : BitVec 32 := 8#32
  let c0_i32_78 : BitVec 32 := 0#32
  let v118 : BitVec 1 := Scalar.cmpi .eq c8_i32_77 c0_i32_78
  let c1_i32_79 : BitVec 32 := 1#32
  let v119 : BitVec 32 := Scalar.select v118 c1_i32_79 c8_i32_77
  let v120 : BitVec 32 := Scalar.remsi v117 v119
  let c0_i32_81 : BitVec 32 := 0#32
  let v122 : BitVec 1 := Scalar.cmpi .slt v120 c0_i32_81
  let c0_i32_82 : BitVec 32 := 0#32
  let v123 : BitVec 1 := Scalar.cmpi .slt v119 c0_i32_82
  let v124 : BitVec 1 := Scalar.xori v122 v123
  let c0_i32_80 : BitVec 32 := 0#32
  let v121 : BitVec 1 := Scalar.cmpi .ne v120 c0_i32_80
  let v125 : BitVec 1 := Scalar.andi v124 v121
  let v126 : BitVec 32 := Scalar.addi v120 v119
  let v127 : BitVec 32 := Scalar.select v125 v126 v120
  let c512_i32_83 : BitVec 32 := 512#32
  let v128 : BitVec 32 := Scalar.muli v127 c512_i32_83
  let v129 : Index := Scalar.indexCast v128
  let c0_84 : Index := 0#32
  ![v129.toNat, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_90 : BitVec 32 := 2#32
  let v139 : BitVec 32 := Scalar.addi v5 c2_i32_90
  let c0_i32_48 : BitVec 32 := 0#32
  let c1_i32_49 : BitVec 32 := 1#32
  let arg15 : BitVec 32 := Scf.iv c0_i32_48 c1_i32_49 k0_t1
  let v140 : BitVec 32 := Scalar.addi v139 arg15
  let c8_i32_91 : BitVec 32 := 8#32
  let c0_i32_92 : BitVec 32 := 0#32
  let v141 : BitVec 1 := Scalar.cmpi .eq c8_i32_91 c0_i32_92
  let c1_i32_93 : BitVec 32 := 1#32
  let v142 : BitVec 32 := Scalar.select v141 c1_i32_93 c8_i32_91
  let v143 : BitVec 32 := Scalar.remsi v140 v142
  let c0_i32_95 : BitVec 32 := 0#32
  let v145 : BitVec 1 := Scalar.cmpi .slt v143 c0_i32_95
  let c0_i32_96 : BitVec 32 := 0#32
  let v146 : BitVec 1 := Scalar.cmpi .slt v142 c0_i32_96
  let v147 : BitVec 1 := Scalar.xori v145 v146
  let c0_i32_94 : BitVec 32 := 0#32
  let v144 : BitVec 1 := Scalar.cmpi .ne v143 c0_i32_94
  let v148 : BitVec 1 := Scalar.andi v147 v144
  let v149 : BitVec 32 := Scalar.addi v143 v142
  let v150 : BitVec 32 := Scalar.select v148 v149 v143
  let c512_i32_97 : BitVec 32 := 512#32
  let v151 : BitVec 32 := Scalar.muli v150 c512_i32_97
  let c256_i32_98 : BitVec 32 := 256#32
  let v152 : BitVec 32 := Scalar.addi v151 c256_i32_98
  let v153 : Index := Scalar.indexCast v152
  let c0_99 : Index := 0#32
  ![v153.toNat, 0]
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_123 : BitVec 32 := 1#32
  let v179 : BitVec 32 := Scalar.muli v33 c1_i32_123
  let v180 : BitVec 32 := Scalar.addi c0_i32_124 v179
  v180.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_126 : BitVec 32 := 1#32
  let v181 : BitVec 32 := Scalar.muli v19 c1_i32_126
  let v182 : BitVec 32 := Scalar.addi c0_i32_127 v181
  v182.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_59 : BitVec 32 := 512#32
  let v101 : BitVec 32 := Scalar.muli v5 c512_i32_59
  let c0_i32_62 : BitVec 32 := 0#32
  ![v101.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_60 : BitVec 32 := 512#32
  let v102 : BitVec 32 := Scalar.muli v5 c512_i32_60
  let c256_i32_61 : BitVec 32 := 256#32
  let v103 : BitVec 32 := Scalar.addi v102 c256_i32_61
  let c0_i32_63 : BitVec 32 := 0#32
  ![v103.toNat, 0]
@[reducible] def k0_t2_loop : Scf.Loop 32 :=
  let c0_i32_66 : BitVec 32 := 0#32
  let c7_i32_67 : BitVec 32 := 7#32
  let v108 : BitVec 32 := Scalar.addi c0_i32_66 c7_i32_67
  let c1_i32_68 : BitVec 32 := 1#32
  ⟨c0_i32_66, v108, c1_i32_68⟩
def k0_off7 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_66 : BitVec 32 := 0#32
  let c1_i32_68 : BitVec 32 := 1#32
  let arg15 : BitVec 32 := Scf.iv c0_i32_66 c1_i32_68 k0_t2
  let v109 : BitVec 32 := Scalar.subi v5 arg15
  let c8_i32_74 : BitVec 32 := 8#32
  let c0_i32_75 : BitVec 32 := 0#32
  let v110 : BitVec 1 := Scalar.cmpi .eq c8_i32_74 c0_i32_75
  let c1_i32_76 : BitVec 32 := 1#32
  let v111 : BitVec 32 := Scalar.select v110 c1_i32_76 c8_i32_74
  let v112 : BitVec 32 := Scalar.remsi v109 v111
  let c0_i32_78 : BitVec 32 := 0#32
  let v114 : BitVec 1 := Scalar.cmpi .slt v112 c0_i32_78
  let c0_i32_79 : BitVec 32 := 0#32
  let v115 : BitVec 1 := Scalar.cmpi .slt v111 c0_i32_79
  let v116 : BitVec 1 := Scalar.xori v114 v115
  let c0_i32_77 : BitVec 32 := 0#32
  let v113 : BitVec 1 := Scalar.cmpi .ne v112 c0_i32_77
  let v117 : BitVec 1 := Scalar.andi v116 v113
  let v118 : BitVec 32 := Scalar.addi v112 v111
  let v119 : BitVec 32 := Scalar.select v117 v118 v112
  let c512_i32_86 : BitVec 32 := 512#32
  let v131 : BitVec 32 := Scalar.muli v119 c512_i32_86
  let c0_i32_91 : BitVec 32 := 0#32
  ![v131.toNat, 0]
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_89 : BitVec 32 := 1#32
  let v134 : BitVec 32 := Scalar.muli v19 c1_i32_89
  let v135 : BitVec 32 := Scalar.addi c0_i32_90 v134
  v135.toNat
def k0_off8 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_66 : BitVec 32 := 0#32
  let c1_i32_68 : BitVec 32 := 1#32
  let arg15 : BitVec 32 := Scf.iv c0_i32_66 c1_i32_68 k0_t2
  let v120 : BitVec 32 := Scalar.addi v5 arg15
  let c8_i32_80 : BitVec 32 := 8#32
  let c0_i32_81 : BitVec 32 := 0#32
  let v121 : BitVec 1 := Scalar.cmpi .eq c8_i32_80 c0_i32_81
  let c1_i32_82 : BitVec 32 := 1#32
  let v122 : BitVec 32 := Scalar.select v121 c1_i32_82 c8_i32_80
  let v123 : BitVec 32 := Scalar.remsi v120 v122
  let c0_i32_84 : BitVec 32 := 0#32
  let v125 : BitVec 1 := Scalar.cmpi .slt v123 c0_i32_84
  let c0_i32_85 : BitVec 32 := 0#32
  let v126 : BitVec 1 := Scalar.cmpi .slt v122 c0_i32_85
  let v127 : BitVec 1 := Scalar.xori v125 v126
  let c0_i32_83 : BitVec 32 := 0#32
  let v124 : BitVec 1 := Scalar.cmpi .ne v123 c0_i32_83
  let v128 : BitVec 1 := Scalar.andi v127 v124
  let v129 : BitVec 32 := Scalar.addi v123 v122
  let v130 : BitVec 32 := Scalar.select v128 v129 v123
  let c512_i32_87 : BitVec 32 := 512#32
  let v132 : BitVec 32 := Scalar.muli v130 c512_i32_87
  let c256_i32_88 : BitVec 32 := 256#32
  let v133 : BitVec 32 := Scalar.addi v132 c256_i32_88
  let c0_i32_94 : BitVec 32 := 0#32
  ![v133.toNat, 0]
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_92 : BitVec 32 := 1#32
  let v137 : BitVec 32 := Scalar.muli v33 c1_i32_92
  let v138 : BitVec 32 := Scalar.addi c0_i32_93 v137
  v138.toNat
def k0_off9 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_105 : BitVec 32 := 1#32
  let v148 : BitVec 32 := Scalar.subi v5 c1_i32_105
  let c0_i32_66 : BitVec 32 := 0#32
  let c1_i32_68 : BitVec 32 := 1#32
  let arg15 : BitVec 32 := Scf.iv c0_i32_66 c1_i32_68 k0_t2
  let v149 : BitVec 32 := Scalar.subi v148 arg15
  let c8_i32_106 : BitVec 32 := 8#32
  let c0_i32_107 : BitVec 32 := 0#32
  let v150 : BitVec 1 := Scalar.cmpi .eq c8_i32_106 c0_i32_107
  let c1_i32_108 : BitVec 32 := 1#32
  let v151 : BitVec 32 := Scalar.select v150 c1_i32_108 c8_i32_106
  let v152 : BitVec 32 := Scalar.remsi v149 v151
  let c0_i32_110 : BitVec 32 := 0#32
  let v154 : BitVec 1 := Scalar.cmpi .slt v152 c0_i32_110
  let c0_i32_111 : BitVec 32 := 0#32
  let v155 : BitVec 1 := Scalar.cmpi .slt v151 c0_i32_111
  let v156 : BitVec 1 := Scalar.xori v154 v155
  let c0_i32_109 : BitVec 32 := 0#32
  let v153 : BitVec 1 := Scalar.cmpi .ne v152 c0_i32_109
  let v157 : BitVec 1 := Scalar.andi v156 v153
  let v158 : BitVec 32 := Scalar.addi v152 v151
  let v159 : BitVec 32 := Scalar.select v157 v158 v152
  let c512_i32_119 : BitVec 32 := 512#32
  let v172 : BitVec 32 := Scalar.muli v159 c512_i32_119
  let c0_i32_120 : BitVec 32 := 0#32
  ![v172.toNat, 0]
def k0_off10 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_112 : BitVec 32 := 1#32
  let v160 : BitVec 32 := Scalar.addi v5 c1_i32_112
  let c0_i32_66 : BitVec 32 := 0#32
  let c1_i32_68 : BitVec 32 := 1#32
  let arg15 : BitVec 32 := Scf.iv c0_i32_66 c1_i32_68 k0_t2
  let v161 : BitVec 32 := Scalar.addi v160 arg15
  let c8_i32_113 : BitVec 32 := 8#32
  let c0_i32_114 : BitVec 32 := 0#32
  let v162 : BitVec 1 := Scalar.cmpi .eq c8_i32_113 c0_i32_114
  let c1_i32_115 : BitVec 32 := 1#32
  let v163 : BitVec 32 := Scalar.select v162 c1_i32_115 c8_i32_113
  let v164 : BitVec 32 := Scalar.remsi v161 v163
  let c0_i32_117 : BitVec 32 := 0#32
  let v166 : BitVec 1 := Scalar.cmpi .slt v164 c0_i32_117
  let c0_i32_118 : BitVec 32 := 0#32
  let v167 : BitVec 1 := Scalar.cmpi .slt v163 c0_i32_118
  let v168 : BitVec 1 := Scalar.xori v166 v167
  let c0_i32_116 : BitVec 32 := 0#32
  let v165 : BitVec 1 := Scalar.cmpi .ne v164 c0_i32_116
  let v169 : BitVec 1 := Scalar.andi v168 v165
  let v170 : BitVec 32 := Scalar.addi v164 v163
  let v171 : BitVec 32 := Scalar.select v169 v170 v164
  let c512_i32_121 : BitVec 32 := 512#32
  let v174 : BitVec 32 := Scalar.muli v171 c512_i32_121
  let c256_i32_122 : BitVec 32 := 256#32
  let v175 : BitVec 32 := Scalar.addi v174 c256_i32_122
  let c0_i32_123 : BitVec 32 := 0#32
  ![v175.toNat, 0]
def k0_cond2 (k0_t2 : Fin k0_t2_loop.trips) : BitVec 1 :=
  let c0_i32_66 : BitVec 32 := 0#32
  let c1_i32_68 : BitVec 32 := 1#32
  let arg15 : BitVec 32 := Scf.iv c0_i32_66 c1_i32_68 k0_t2
  let c6_i32 : BitVec 32 := 6#32
  let v179 : BitVec 1 := Scalar.cmpi .slt arg15 c6_i32
  let v180 : BitVec 32 := Scalar.extui v179
  let c0_i32_126 : BitVec 32 := 0#32
  let v181 : BitVec 1 := Scalar.cmpi .ne v180 c0_i32_126
  v181

def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_128 : BitVec 32 := 1#32
  let v182 : BitVec 32 := Scalar.muli v33 c1_i32_128
  let v183 : BitVec 32 := Scalar.addi c0_i32_129 v182
  v183.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_131 : BitVec 32 := 1#32
  let v184 : BitVec 32 := Scalar.muli v19 c1_i32_131
  let v185 : BitVec 32 := Scalar.addi c0_i32_132 v184
  v185.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== SiluIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Ring.lean ====
/- The ring the kernel runs on. Eight devices sit on a ring whose position numbering swaps device ids 4..7 with 7..4
   (`fl`, its own inverse). Everything goes around this ring twice, once per direction: `true` is the clockwise
   direction (a transfer goes to the next position), `false` the counter-clockwise one. `dn δ c` is the device that
   `c` sends to in direction `δ`, `up δ c` the one it receives from, `anc δ t c` the one `t` places up. This module
   says which device each computed device id names and which rows each computed offset names. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.MatSilu

open Cert.KernelIdeal Cert.KernelIdeal.Gen
open Idealize.ShloMosaic Idealize.ShloMosaic.TcCoe

/-- The ring position of a device, and the device at a ring position. -/
def fl (c : Dev nD) : Dev nD :=
  match c with
  | 0 => 0 | 1 => 1 | 2 => 2 | 3 => 3 | 4 => 7 | 5 => 6 | 6 => 5 | 7 => 4

/-- The device `c` sends to in direction `δ`. -/
def dn (δ : Bool) (c : Dev nD) : Dev nD := fl (if δ then fl c + 1 else fl c - 1)
/-- The device `c` receives from in direction `δ`. -/
def up (δ : Bool) (c : Dev nD) : Dev nD := dn (!δ) c
/-- The device `t` places up from `c`. -/
def anc (δ : Bool) : ℕ → Dev nD → Dev nD
  | 0, c => c
  | t + 1, c => anc δ t (up δ c)

theorem fl_fl (c : Dev nD) : fl (fl c) = c := by revert c; decide
theorem up_dn (δ : Bool) (c : Dev nD) : up δ (dn δ c) = c := by revert δ c; decide
theorem dn_up (δ : Bool) (c : Dev nD) : dn δ (up δ c) = c := by revert δ c; decide
theorem dn_ne_up (δ : Bool) (c : Dev nD) : dn δ c ≠ up δ c := by revert δ c; decide
theorem anc_succ' (δ : Bool) (t : ℕ) (c : Dev nD) : anc δ (t + 1) c = up δ (anc δ t c) := by
  induction t generalizing c with
  | zero => rfl
  | succ t ih => exact ih (up δ c)
theorem anc_eight (δ : Bool) (c : Dev nD) : anc δ 8 c = c := by revert δ c; decide
/-- Going up `t` places, `t < 8`, is one-to-one in `t` and reaches every device. -/
theorem anc_inj (δ : Bool) (c : Dev nD) : ∀ t t' : Fin 8, anc δ t c = anc δ t' c → t = t' := by revert δ c; decide
theorem anc_surj (δ : Bool) (c d : Dev nD) : ∃ t : Fin 8, anc δ t c = d := by revert δ c d; decide

/-- Going down one place is a permutation of the devices. -/
def ring (δ : Bool) : Dev nD ≃ Dev nD := ⟨dn δ, up δ, up_dn δ, dn_up δ⟩

/-- Where the half `δ` of row chunk `r` starts: 512 rows per chunk, the clockwise half first. -/
def roff (δ : Bool) (r : Dev nD) : Fin 2 → Nat := ![512 * r.val + (if δ then 0 else 256), 0]

theorem roff_inb_out (δ : Bool) (r : Dev nD) : ∀ a, roff δ r a + S256x8192.size a ≤ S4096x8192.size a := by
  revert δ r; decide +kernel
theorem roff_inb_in (δ : Bool) (r : Dev nD) : ∀ a, roff δ r a + S256x512.size a ≤ S4096x512.size a := by
  revert δ r; decide +kernel

/-! ## The computed device ids -/

theorem dev1_eq (c : Dev nD) : (⟨k0_dev1 c, k0_dev1_lt c⟩ : Dev nD) = up true c := by revert c; decide +kernel
theorem dev2_eq (c : Dev nD) : (⟨k0_dev2 c, k0_dev2_lt c⟩ : Dev nD) = up false c := by revert c; decide +kernel
theorem dev3_eq (c : Dev nD) : (⟨k0_dev3 c, k0_dev3_lt c⟩ : Dev nD) = dn true c := by revert c; decide +kernel
theorem dev4_eq (c : Dev nD) : (⟨k0_dev4 c, k0_dev4_lt c⟩ : Dev nD) = dn false c := by revert c; decide +kernel
theorem dev5_eq (c : Dev nD) : (⟨k0_dev5 c, k0_dev5_lt c⟩ : Dev nD) = up true c := by revert c; decide +kernel
theorem dev6_eq (c : Dev nD) : (⟨k0_dev6 c, k0_dev6_lt c⟩ : Dev nD) = up false c := by revert c; decide +kernel
theorem dev7_eq (c : Dev nD) : (⟨k0_dev7 c, k0_dev7_lt c⟩ : Dev nD) = dn true c := by revert c; decide +kernel
theorem dev8_eq (c : Dev nD) : (⟨k0_dev8 c, k0_dev8_lt c⟩ : Dev nD) = dn false c := by revert c; decide +kernel
theorem dev9_val (c : Dev nD) : k0_dev9 c = (up true c).val := by revert c; decide +kernel
theorem dev10_val (c : Dev nD) : k0_dev10 c = (up false c).val := by revert c; decide +kernel

/-! ## The computed offsets -/

theorem off1_eq (c : Dev nD) : k0_off1 c = roff true (fl (anc true 1 c)) := by revert c; decide +kernel
theorem off2_eq (c : Dev nD) : k0_off2 c = roff false (fl (anc false 1 c)) := by revert c; decide +kernel
theorem off3_eq (c : Dev nD) : ∀ t : Fin k0_t1_loop.trips, k0_off3 c t = roff true (fl (anc true (t.val + 2) c)) := by
  revert c; decide +kernel
theorem off4_eq (c : Dev nD) : ∀ t : Fin k0_t1_loop.trips, k0_off4 c t = roff false (fl (anc false (t.val + 2) c)) := by
  revert c; decide +kernel
theorem off5_eq (c : Dev nD) : k0_off5 c = roff true (fl (anc true 0 c)) := by revert c; decide +kernel
theorem off6_eq (c : Dev nD) : k0_off6 c = roff false (fl (anc false 0 c)) := by revert c; decide +kernel
theorem off7_eq (c : Dev nD) : ∀ t : Fin k0_t2_loop.trips, k0_off7 c t = roff true (fl (anc true t.val c)) := by
  revert c; decide +kernel
theorem off8_eq (c : Dev nD) : ∀ t : Fin k0_t2_loop.trips, k0_off8 c t = roff false (fl (anc false t.val c)) := by
  revert c; decide +kernel
theorem off9_eq (c : Dev nD) : ∀ t : Fin k0_t2_loop.trips, k0_off9 c t = roff true (fl (anc true (t.val + 1) c)) := by
  revert c; decide +kernel
theorem off10_eq (c : Dev nD) : ∀ t : Fin k0_t2_loop.trips, k0_off10 c t = roff false (fl (anc false (t.val + 1) c)) := by
  revert c; decide +kernel

theorem trips1 : k0_t1_loop.trips = 7 := by decide +kernel
theorem trips2 : k0_t2_loop.trips = 7 := by decide +kernel
/-- The last trip of the second loop alone returns no credit. -/
theorem cond2_iff : ∀ t : Fin k0_t2_loop.trips, k0_cond2 t = 1#1 ↔ t.val < 6 := by decide +kernel

end Cert.MatSilu

end
-- ==== Proof.Value.lean ====
/- What the buffers hold, as functions of the two operands' blocks `X c`, `Wt c` of every device `c`: the partial
   products, the running sums that travel round the ring, the finished half chunks, and the whole result. -/
module

public import proofs.«01_k».proof.Proof.Ring

@[expose] public section

noncomputable section

namespace Cert.MatSilu

open Cert.KernelIdeal Cert.KernelIdeal.Gen
open Idealize.ShloMosaic Idealize.ShloMosaic.TcCoe

variable {F : FTy → Type} [FloatOps F]

/-! ## The memrefs -/

abbrev xM : Memref sig .tc .vmem S4096x512 .bf16 := Memref.whole cc0_stg0_0
abbrev wM : Memref sig .tc .vmem S512x8192 .bf16 := Memref.whole cc0_stg1_0
abbrev oM : Memref sig .tc .hbm S4096x8192 .bf16 := Memref.whole main_v1
abbrev aM : Memref sig .tc .vmem S512x8192 .bf16 := Memref.whole cc0_scratch0
/-- The buffer a direction's running sum is built in, and the buffer a direction's transfers land in. -/
abbrev stR : Bool → Ref sig .tc := fun | true => cc0_scratch1 | false => cc0_scratch2
abbrev coR : Bool → Ref sig .tc := fun | true => cc0_scratch3 | false => cc0_scratch4
abbrev sM : Bool → Memref sig .tc .vmem S256x8192 .bf16 :=
  fun | true => Memref.whole cc0_scratch1 | false => Memref.whole cc0_scratch2
abbrev cM : Bool → Memref sig .tc .vmem S256x8192 .bf16 :=
  fun | true => Memref.whole cc0_scratch3 | false => Memref.whole cc0_scratch4
/-- The half `δ` of row chunk `r` of the result. -/
abbrev oSl (δ : Bool) (r : Dev nD) : Memref sig .tc .hbm S256x8192 .bf16 :=
  oM.slice (Rect.unit (s := S4096x8192) (roff δ r) S256x8192.size (roff_inb_out δ r)) (fun _ => rfl)

/-- A slice of the result at an offset equal to a half chunk's is that half chunk. -/
theorem oSl_of (δ : Bool) (r : Dev nD) (o : Fin 2 → Nat) (h : ∀ a, o a + S256x8192.size a ≤ S4096x8192.size a) (e : o = roff δ r) :
    (oM.slice (Rect.unit (s := S4096x8192) o S256x8192.size h) (fun _ => rfl) : Memref sig .tc .hbm S256x8192 .bf16) = oSl δ r := by
  subst e; rfl

/-! ## Sums -/

section Values

variable (X : Dev nD → Vec F S4096x512 .bf16) (Wt : Dev nD → Vec F S512x8192 .bf16)

/-- The rows of half chunk `(δ, r)` of a device's block of `x`. -/
def rows (δ : Bool) (r : Dev nD) (x : Vec F S4096x512 .bf16) : Vec F S256x512 .bf16 :=
  xM.view.readAt (Elt F) (Rect.unit (s := S4096x512) (roff δ r) S256x512.size (roff_inb_in δ r)).toLoadRect x

theorem rows_of (δ : Bool) (r : Dev nD) (o : Fin 2 → Nat) (h : ∀ a, o a + S256x512.size a ≤ S4096x512.size a) (e : o = roff δ r)
    (x : Vec F S4096x512 .bf16) :
    xM.view.readAt (Elt F) (Rect.unit (s := S4096x512) o S256x512.size h).toLoadRect x = rows δ r x := by
  subst e; rfl

/-- Device `d`'s contribution to half chunk `(δ, r)` of the product. -/
def part (δ : Bool) (d r : Dev nD) : Vec F S256x8192 .bf16 := k0_pay1 (rows δ r (X d)) (Wt d)

/-- The running sum device `c` holds at step `s` of direction `δ`: its own contribution to the half chunk of the
    device `s + 1` places up, added to what the device one place up held a step before. -/
def sumV (δ : Bool) : ℕ → Dev nD → Vec F S256x8192 .bf16
  | 0, c => part X Wt δ c (fl (anc δ 1 c))
  | s + 1, c => k0_pay6 (k0_pay3 (part X Wt δ c (fl (anc δ (s + 2) c))) (sumV δ s (up δ c)))

/-- The finished half chunk of device `c`: `silu` of the whole sum. -/
def fin (δ : Bool) (c : Dev nD) : Vec F S256x8192 .bf16 := k0_pay8 (sumV X Wt δ 7 c)

/-- What device `c` sends with its transfer `j`, `j < 14`: the running sums, then the finished half chunks. -/
def srcV (δ : Bool) (j : ℕ) (c : Dev nD) : Vec F S256x8192 .bf16 :=
  if j < 7 then sumV X Wt δ j c else fin X Wt δ (anc δ (j - 7) c)
/-- What lands at device `c` with transfer `j`. -/
def recvV (δ : Bool) (j : ℕ) (c : Dev nD) : Vec F S256x8192 .bf16 := srcV X Wt δ j (up δ c)

theorem recvV_dn (δ : Bool) (j : ℕ) (c : Dev nD) : recvV X Wt δ j (dn δ c) = srcV X Wt δ j c := by
  unfold recvV; rw [up_dn]
theorem srcV_lt (δ : Bool) {j : ℕ} (h : j < 7) (c : Dev nD) : srcV X Wt δ j c = sumV X Wt δ j c := if_pos h
theorem srcV_ge (δ : Bool) (t : ℕ) (c : Dev nD) : srcV X Wt δ (7 + t) c = fin X Wt δ (anc δ t c) := by
  unfold srcV; rw [if_neg (by omega), Nat.add_sub_cancel_left]
theorem recvV_ge (δ : Bool) (t : ℕ) (c : Dev nD) : recvV X Wt δ (7 + t) c = fin X Wt δ (anc δ (t + 1) c) := srcV_ge X Wt δ t (up δ c)

/-! ## The result -/

set_option backward.proofsInPublic true in
/-- A row of the result within its half chunk. -/
def subIdx (i : S4096x8192.Idx) : S256x8192.Idx := fun a => match a with
  | ⟨0, _⟩ => ⟨(i 0).val % 256, Nat.mod_lt _ (by decide)⟩
  | ⟨1, _⟩ => ⟨(i 1).val, (i 1).isLt⟩

set_option backward.proofsInPublic true in
def rowChunk (i : S4096x8192.Idx) : Dev nD := ⟨(i 0).val / 512, by have : (i 0).val < 4096 := (i 0).isLt; show _ < 8; omega⟩
def rowHalf (i : S4096x8192.Idx) : Bool := decide ((i 0).val % 512 < 256)

/-- The whole result: every half chunk finished by the device whose ring position is the chunk's number. It does not
    mention the device that holds it. -/
def outV : Vec F S4096x8192 .bf16 := fun i => fin X Wt (rowHalf i) (fl (rowChunk i)) (subIdx i)

abbrev oRect (δ : Bool) (r : Dev nD) : Rect S4096x8192 := Rect.unit (s := S4096x8192) (roff δ r) S256x8192.size (roff_inb_out δ r)

theorem emb_row (δ : Bool) (r : Dev nD) (j : S256x8192.Idx) :
    (((oRect δ r).emb j) 0).val = 512 * r.val + (if δ then 0 else 256) + (j 0).val := by
  rw [Rect.emb_apply, Rect.off_unit, Rect.stride_unit, Nat.one_mul]; rfl
theorem emb_col (δ : Bool) (r : Dev nD) (j : S256x8192.Idx) : (((oRect δ r).emb j) 1).val = (j 1).val := by
  rw [Rect.emb_apply, Rect.off_unit, Rect.stride_unit, Nat.one_mul]; exact Nat.zero_add _

theorem outV_emb (δ : Bool) (r : Dev nD) (j : S256x8192.Idx) : outV X Wt ((oRect δ r).emb j) = fin X Wt δ (fl r) j := by
  have h0 : (j 0).val < 256 := (j 0).isLt
  have hr : rowChunk ((oRect δ r).emb j) = r := by
    apply Fin.ext; show (((oRect δ r).emb j) 0).val / 512 = _
    rw [emb_row]; cases δ
    · simp only [Bool.false_eq_true, if_false]; omega
    · simp only [if_true]; omega
  have hh : rowHalf ((oRect δ r).emb j) = δ := by
    unfold rowHalf; rw [emb_row]; cases δ
    · simp only [Bool.false_eq_true, if_false]; exact decide_eq_false (by omega)
    · simp only [if_true]; exact decide_eq_true (by omega)
  have hs : subIdx ((oRect δ r).emb j) = j := by
    funext a; apply Fin.ext
    match a with
    | ⟨0, _⟩ =>
      show (((oRect δ r).emb j) 0).val % 256 = (j 0).val
      rw [emb_row]; cases δ
      · simp only [Bool.false_eq_true, if_false]; omega
      · simp only [if_true]; omega
    | ⟨1, _⟩ => exact emb_col δ r j
  unfold outV; rw [hr, hh, hs]

/-- The result read through a half chunk is that half chunk. -/
theorem read_outV (δ : Bool) (r : Dev nD) : (oSl δ r).view.read (Elt F) (outV X Wt) = fin X Wt δ (fl r) :=
  funext fun j => outV_emb X Wt δ r j

/-- A half chunk written with its finished values holds the result there. -/
theorem write_outV (δ : Bool) (r : Dev nD) (f : Vec F S4096x8192 .bf16) :
    ∀ i ∈ (oSl δ r).view.set, (oSl δ r).view.write (Elt F) f (fin X Wt δ (fl r)) Finset.univ i = outV X Wt i := by
  intro i hi
  obtain ⟨j, -, rfl⟩ := Finset.mem_map.mp hi
  rw [View.write_emb_of_mem _ _ (Finset.mem_univ _)]
  exact (outV_emb X Wt δ r j).symm

end Values

/-! ## The half chunks as element sets -/

def oSet (b : Bool × Dev nD) : Finset (main_v1 : Ref sig .tc).ty.Idx := (oSl b.1 b.2).view.set

theorem oSet_eq (b : Bool × Dev nD) : oSet b = (oRect b.1 b.2).set := View.set_slice_whole _ _

theorem mem_oSet (b : Bool × Dev nD) (i : S4096x8192.Idx) (h : i ∈ oSet b) :
    512 * b.2.val + (if b.1 then 0 else 256) ≤ (i 0).val ∧ (i 0).val < 512 * b.2.val + (if b.1 then 0 else 256) + 256 := by
  rw [oSet_eq] at h; exact (Rect.mem_set_unit.mp h) 0

theorem oSet_disjoint (b b' : Bool × Dev nD) (h : b ≠ b') : Disjoint (oSet b) (oSet b') := by
  rw [Finset.disjoint_left]
  intro i hi hi'
  have h1 := mem_oSet b i hi
  have h2 := mem_oSet b' i hi'
  obtain ⟨δ, r⟩ := b; obtain ⟨δ', r'⟩ := b'
  apply h
  cases δ <;> cases δ' <;> simp only [Bool.false_eq_true, if_false, if_true] at h1 h2
  · rw [show r = r' from Fin.ext (by omega)]
  · omega
  · omega
  · rw [show r = r' from Fin.ext (by omega)]

theorem oSet_cover : Finset.univ.biUnion oSet = Finset.univ := by
  ext i
  simp only [Finset.mem_biUnion, Finset.mem_univ, true_and, iff_true]
  have h0 : (i 0).val < 4096 := (i 0).isLt
  have h1 : (i 1).val < 8192 := (i 1).isLt
  refine ⟨(rowHalf i, rowChunk i), ?_⟩
  rw [oSet_eq]
  refine Rect.mem_set_unit.mpr fun a => ?_
  match a with
  | ⟨0, _⟩ =>
    show 512 * ((i 0).val / 512) + (if rowHalf i then 0 else 256) ≤ (i 0).val ∧ (i 0).val < 512 * ((i 0).val / 512) + (if rowHalf i then 0 else 256) + 256
    unfold rowHalf
    by_cases hh : (i 0).val % 512 < 256
    · rw [if_pos (decide_eq_true hh)]; omega
    · rw [if_neg (by simpa using hh)]; omega
  | ⟨1, _⟩ =>
    show 0 ≤ (i 1).val ∧ (i 1).val < 0 + 8192
    omega

end Cert.MatSilu

end
-- ==== Proof.Proto.lean ====
/- The protocol between the devices, written down as one schedule over the semaphores.

   Every device has eight semaphores. For each direction `δ`: a send cell and a receive cell (one transfer each per
   round, fourteen rounds), and a credit cell (thirteen rounds, one unit each). Besides: one cell for its local copies
   (eight rounds of two copies) and the barrier cell (one round of two units). The rounds and what they hand over:

   * send `δ`, round `j`: paid by the device's own transfer `j`, hands the transfer's source back;
   * receive `δ`, round `j`: paid by the transfer `j` of the device one place up, hands over the landing buffer holding
     what was sent, and that the sender's credit cell has reached round `j`;
   * credit `δ`, round `j`: paid by the device one place down, hands over ITS landing buffer, free again, and that its
     receive cell has reached round `j + 1`; waited for before transfer `j + 1`;
   * barrier, duty `δ`: paid by the device one place down, hands over its landing buffer of direction `δ`; waited for
     before transfer 0;
   * copy, round `r`, duty `δ`: paid by the local copy of a finished half chunk into the result; hands both back.

   The waits are ordered by levels: receive round `j` below credit round `j` below receive round `j + 1`. -/
module

public import proofs.«01_k».proof.Proof.Value

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part and the rounds' -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## The cells -/

abbrev barS : Sem sig := (SemArray.scalar (sig.barrier 0 rfl) : Sems sig S_).sem
abbrev csem : Fin 8 → SemLoc sig := fun
  | 0 => .dma (cc0_scratch5 : DmaSems sig S_).sem | 1 => .dma (cc0_scratch6 : DmaSems sig S_).sem
  | 2 => .dma (cc0_scratch7 : DmaSems sig S_).sem | 3 => .dma (cc0_scratch8 : DmaSems sig S_).sem
  | 4 => .dma (cc0_scratch9 : DmaSems sig S_).sem
  | 5 => .reg (cc0_scratch10 : Sems sig S_).sem | 6 => .reg (cc0_scratch11 : Sems sig S_).sem
  | 7 => .reg barS
/-- The cell of kind `k` on device `c`. -/
abbrev cell (c : Dev nD) (k : Fin 8) : GSem nD τ sig := ((c : Thread nD τ), csem k)

abbrev sendK : Bool → Fin 8 := fun | true => 0 | false => 2
abbrev recvK : Bool → Fin 8 := fun | true => 1 | false => 3
abbrev credK : Bool → Fin 8 := fun | true => 5 | false => 6
abbrev sendS : Bool → DmaSem sig := fun | true => (cc0_scratch5 : DmaSems sig S_).sem | false => (cc0_scratch7 : DmaSems sig S_).sem
abbrev recvS : Bool → DmaSem sig := fun | true => (cc0_scratch6 : DmaSems sig S_).sem | false => (cc0_scratch8 : DmaSems sig S_).sem
abbrev copyS : DmaSem sig := (cc0_scratch9 : DmaSems sig S_).sem
abbrev credS : Bool → Sem sig := fun | true => (cc0_scratch10 : Sems sig S_).sem | false => (cc0_scratch11 : Sems sig S_).sem

theorem csem_inj : ∀ k k' : Fin 8, csem k = csem k' → k = k' := by decide

/-- Which of the eight kinds a semaphore is, if any. -/
def kindOf (s : SemLoc sig) : Option (Fin 8) := (List.finRange 8).find? fun k => decide (csem k = s)
theorem kindOf_csem : ∀ k : Fin 8, kindOf (csem k) = some k := by decide

/-- The credit of one transfer: the bytes of a half chunk. -/
def N : ℕ := (sM true).view.dmaCredit
theorem N_pos : 0 < N := View.dmaCredit_pos _ (by decide)

/-! ## Buffers held -/

/-- The staging buffer, the landing buffer of direction `δ` on device `c` at contents `v`; a half chunk of its result. -/
def stP (δ : Bool) (c : Dev nD) (v : Vec F S256x8192 .bf16) : sProp 𝕄 :=
  match δ with
  | true => ((c : Thread nD τ).loc cc0_scratch1) ↦{fullShare} v
  | false => ((c : Thread nD τ).loc cc0_scratch2) ↦{fullShare} v
def coP (δ : Bool) (c : Dev nD) (v : Vec F S256x8192 .bf16) : sProp 𝕄 :=
  match δ with
  | true => ((c : Thread nD τ).loc cc0_scratch3) ↦{fullShare} v
  | false => ((c : Thread nD τ).loc cc0_scratch4) ↦{fullShare} v
def oP (c : Dev nD) (b : Bool × Dev nD) (v : Vec F S4096x8192 .bf16) : sProp 𝕄 :=
  ((c : Thread nD τ).loc main_v1) ↦[oSet b]{fullShare} v

instance stP_storable (δ : Bool) (c : Dev nD) (v : Vec F S256x8192 .bf16) : BI.Storable (upEmb : UEmb _ 𝕄) (stP δ c v) := by
  cases δ <;> (unfold stP; infer_instance)
instance coP_storable (δ : Bool) (c : Dev nD) (v : Vec F S256x8192 .bf16) : BI.Storable (upEmb : UEmb _ 𝕄) (coP δ c v) := by
  cases δ <;> (unfold coP; infer_instance)
instance oP_storable (c : Dev nD) (b : Bool × Dev nD) (v : Vec F S4096x8192 .bf16) : BI.Storable (upEmb : UEmb _ 𝕄) (oP c b v) := by
  unfold oP; infer_instance

/-! ## The schedule -/

section Sched

variable (X : Dev nD → Vec F S4096x512 .bf16) (Wt : Dev nD → Vec F S512x8192 .bf16)

def barPay (δ : Bool) (c : Dev nD) : sProp 𝕄 := iprop(∃ f, coP δ (dn δ c) f)
def sendPay (δ : Bool) (j : ℕ) (c : Dev nD) : sProp 𝕄 :=
  if j < 7 then stP δ c (srcV X Wt δ j c) else oP c (δ, fl (anc δ (j - 7) c)) (outV X Wt)
def recvPay (δ : Bool) (j : ℕ) (c : Dev nD) : sProp 𝕄 :=
  iprop(coP δ c (recvV X Wt δ j c) ∗ reached ER (cell (up δ c) (credK δ)) j)
def credPay (δ : Bool) (j : ℕ) (c : Dev nD) : sProp 𝕄 :=
  iprop((∃ f, coP δ (dn δ c) f) ∗ reached ER (cell (dn δ c) (recvK δ)) (j + 1))
def copyPay (δ : Bool) (r : ℕ) (c : Dev nD) : sProp 𝕄 :=
  iprop(oP c (δ, fl (anc δ r c)) (outV X Wt)
    ∗ (if r = 0 then stP δ c (fin X Wt δ c) else coP δ c (recvV X Wt δ (6 + r) c)))

def payK (k : Fin 8) (c : Dev nD) (r : ℕ) (d : Bool) : sProp 𝕄 :=
  match k with
  | 0 => sendPay X Wt true r c | 1 => recvPay X Wt true r c | 2 => sendPay X Wt false r c | 3 => recvPay X Wt false r c
  | 4 => copyPay X Wt d r c | 5 => credPay true r c | 6 => credPay false r c | 7 => barPay d c

def dutK (k : Fin 8) (r : ℕ) : Finset Bool :=
  match k with
  | 0 | 1 | 2 | 3 => if r < 14 then {true} else ∅
  | 4 => if r < 8 then Finset.univ else ∅
  | 5 | 6 => if r < 13 then {true} else ∅
  | 7 => if r < 1 then Finset.univ else ∅

def amtK (k : Fin 8) : ℕ := if k.val < 5 then N else 1

def sched : Rounds.Schedule (GSem nD τ sig) Bool 𝕄 where
  duties g r := if g.1.2 = .tc then (kindOf g.2).elim ∅ (fun k => dutK k r) else ∅
  unitless _ := False
  amount g _ _ := (kindOf g.2).elim 1 amtK
  payload g r d := (kindOf g.2).elim iprop(emp) (fun k => payK X Wt k g.1.1 r d)
  amount_pos g _ _ _ := by
    cases h : kindOf g.2 with
    | none => exact Nat.one_pos
    | some k => show 0 < amtK k; unfold amtK; split; exacts [N_pos, Nat.one_pos]

instance payK_storable (k : Fin 8) (c : Dev nD) (r : ℕ) (d : Bool) : BI.Storable (upEmb : UEmb _ 𝕄) (payK X Wt k c r d) := by
  unfold payK
  split <;> first
    | (unfold sendPay; split <;> infer_instance) | (unfold recvPay; infer_instance) | (unfold credPay; infer_instance)
    | (unfold barPay; infer_instance) | (unfold copyPay; split <;> infer_instance)

instance sched_storable (g : GSem nD τ sig) (r : ℕ) (d : Bool) : BI.Storable (upEmb : UEmb _ 𝕄) ((sched X Wt).payload g r d) := by
  show BI.Storable upEmb ((kindOf g.2).elim iprop(emp) (fun k => payK X Wt k g.1.1 r d))
  cases kindOf g.2 with
  | none => show BI.Storable upEmb (iprop(emp) : sProp 𝕄); infer_instance
  | some k => exact payK_storable X Wt k g.1.1 r d

theorem duties_cell (c : Dev nD) (k : Fin 8) (r : ℕ) : (sched X Wt).duties (cell c k) r = dutK k r := by
  show (if ((c : Thread nD τ)).2 = .tc then (kindOf (csem k)).elim ∅ (fun k => dutK k r) else ∅) = _
  rw [kindOf_csem, if_pos rfl]; rfl
theorem amount_cell (c : Dev nD) (k : Fin 8) (r : ℕ) (d : Bool) : (sched X Wt).amount (cell c k) r d = amtK k := by
  show (kindOf (csem k)).elim 1 amtK = _
  rw [kindOf_csem]; rfl
theorem payload_cell (c : Dev nD) (k : Fin 8) (r : ℕ) (d : Bool) : (sched X Wt).payload (cell c k) r d = payK X Wt k c r d := by
  show (kindOf (csem k)).elim iprop(emp) (fun k => payK X Wt k c r d) = _
  rw [kindOf_csem]; rfl

theorem duties_send (δ : Bool) (c : Dev nD) {r : ℕ} (h : r < 14) : (sched X Wt).duties (cell c (sendK δ)) r = {true} := by
  rw [duties_cell]; cases δ <;> exact if_pos h
theorem duties_recv (δ : Bool) (c : Dev nD) {r : ℕ} (h : r < 14) : (sched X Wt).duties (cell c (recvK δ)) r = {true} := by
  rw [duties_cell]; cases δ <;> exact if_pos h
theorem duties_cred (δ : Bool) (c : Dev nD) {r : ℕ} (h : r < 13) : (sched X Wt).duties (cell c (credK δ)) r = {true} := by
  rw [duties_cell]; cases δ <;> exact if_pos h
theorem duties_copy (c : Dev nD) {r : ℕ} (h : r < 8) : (sched X Wt).duties (cell c 4) r = Finset.univ := by
  rw [duties_cell]; exact if_pos h
theorem duties_bar (c : Dev nD) : (sched X Wt).duties (cell c 7) 0 = Finset.univ := by
  rw [duties_cell]; rfl

/-- The number of rounds of each kind. -/
def lastK (k : Fin 8) : ℕ := match k with | 0 | 1 | 2 | 3 => 14 | 4 => 8 | 5 | 6 => 13 | 7 => 1
theorem duties_after (c : Dev nD) (k : Fin 8) : ∀ r, lastK k ≤ r → (sched X Wt).duties (cell c k) r = ∅ := by
  intro r h; rw [duties_cell]
  fin_cases k <;> exact if_neg (Nat.not_lt.mpr h)

theorem amount_send (δ : Bool) (c : Dev nD) (r : ℕ) (d : Bool) : (sched X Wt).amount (cell c (sendK δ)) r d = N := by
  rw [amount_cell]; cases δ <;> rfl
theorem amount_recv (δ : Bool) (c : Dev nD) (r : ℕ) (d : Bool) : (sched X Wt).amount (cell c (recvK δ)) r d = N := by
  rw [amount_cell]; cases δ <;> rfl
theorem amount_cred (δ : Bool) (c : Dev nD) (r : ℕ) (d : Bool) : (sched X Wt).amount (cell c (credK δ)) r d = 1 := by
  rw [amount_cell]; cases δ <;> rfl
theorem amount_copy (c : Dev nD) (r : ℕ) (d : Bool) : (sched X Wt).amount (cell c 4) r d = N := by rw [amount_cell]; rfl
theorem amount_bar (c : Dev nD) (r : ℕ) (d : Bool) : (sched X Wt).amount (cell c 7) r d = 1 := by rw [amount_cell]; rfl

theorem payload_send (δ : Bool) (c : Dev nD) (r : ℕ) (d : Bool) : (sched X Wt).payload (cell c (sendK δ)) r d = sendPay X Wt δ r c := by
  rw [payload_cell]; cases δ <;> rfl
theorem payload_recv (δ : Bool) (c : Dev nD) (r : ℕ) (d : Bool) : (sched X Wt).payload (cell c (recvK δ)) r d = recvPay X Wt δ r c := by
  rw [payload_cell]; cases δ <;> rfl
theorem payload_cred (δ : Bool) (c : Dev nD) (r : ℕ) (d : Bool) : (sched X Wt).payload (cell c (credK δ)) r d = credPay δ r c := by
  rw [payload_cell]; cases δ <;> rfl
theorem payload_copy (c : Dev nD) (r : ℕ) (d : Bool) : (sched X Wt).payload (cell c 4) r d = copyPay X Wt d r c := payload_cell X Wt c 4 r d
theorem payload_bar (c : Dev nD) (r : ℕ) (d : Bool) : (sched X Wt).payload (cell c 7) r d = barPay d c := payload_cell X Wt c 7 r d

theorem expect_send (δ : Bool) (c : Dev nD) {r : ℕ} (h : r < 14) : (sched X Wt).expect (cell c (sendK δ)) r = N := by
  unfold Schedule.expect Schedule.amountOf; rw [duties_send X Wt δ c h, Finset.sum_singleton, amount_send]
theorem expect_recv (δ : Bool) (c : Dev nD) {r : ℕ} (h : r < 14) : (sched X Wt).expect (cell c (recvK δ)) r = N := by
  unfold Schedule.expect Schedule.amountOf; rw [duties_recv X Wt δ c h, Finset.sum_singleton, amount_recv]
theorem expect_cred (δ : Bool) (c : Dev nD) {r : ℕ} (h : r < 13) : (sched X Wt).expect (cell c (credK δ)) r = 1 := by
  unfold Schedule.expect Schedule.amountOf; rw [duties_cred X Wt δ c h, Finset.sum_singleton, amount_cred]
theorem expect_copy (c : Dev nD) {r : ℕ} (h : r < 8) : (sched X Wt).expect (cell c 4) r = N + N := by
  unfold Schedule.expect Schedule.amountOf
  rw [duties_copy X Wt c h, Finset.sum_congr rfl fun d _ => amount_copy X Wt c r d, Finset.sum_const, Finset.card_univ, Fintype.card_bool,
    smul_eq_mul, Nat.two_mul]
theorem expect_bar (c : Dev nD) : (sched X Wt).expect (cell c 7) 0 = 2 := by
  unfold Schedule.expect Schedule.amountOf
  rw [duties_bar, Finset.sum_congr rfl fun d _ => amount_bar X Wt c 0 d, Finset.sum_const, Finset.card_univ, Fintype.card_bool, smul_eq_mul]

/-! What a round hands over when no duty of it was taken before. -/

theorem rest_send (δ : Bool) (c : Dev nD) {r : ℕ} (h : r < 14) :
    bigSep ((sched X Wt).duties (cell c (sendK δ)) r \ ∅) (fun d => (sched X Wt).payload (cell c (sendK δ)) r d) = sendPay X Wt δ r c := by
  rw [Finset.sdiff_empty, duties_send X Wt δ c h, bigSep_singleton, payload_send]
theorem rest_recv (δ : Bool) (c : Dev nD) {r : ℕ} (h : r < 14) :
    bigSep ((sched X Wt).duties (cell c (recvK δ)) r \ ∅) (fun d => (sched X Wt).payload (cell c (recvK δ)) r d) = recvPay X Wt δ r c := by
  rw [Finset.sdiff_empty, duties_recv X Wt δ c h, bigSep_singleton, payload_recv]
theorem rest_cred (δ : Bool) (c : Dev nD) {r : ℕ} (h : r < 13) :
    bigSep ((sched X Wt).duties (cell c (credK δ)) r \ ∅) (fun d => (sched X Wt).payload (cell c (credK δ)) r d) = credPay (F := F) δ r c := by
  rw [Finset.sdiff_empty, duties_cred X Wt δ c h, bigSep_singleton, payload_cred]
theorem rest_bar (c : Dev nD) :
    bigSep ((sched X Wt).duties (cell c 7) 0 \ ∅) (fun d => (sched X Wt).payload (cell c 7) 0 d) = iprop(barPay (F := F) true c ∗ barPay false c) := by
  rw [Finset.sdiff_empty, duties_bar, bigSep_univ_eq_bigSepL [true, false] (by decide) (by decide), bigSepL_cons_cons, bigSepL_singleton,
    payload_bar, payload_bar]
  rfl
theorem all_copy (c : Dev nD) {r : ℕ} (h : r < 8) :
    bigSep ((sched X Wt).duties (cell c 4) r) (fun d => (sched X Wt).payload (cell c 4) r d) = iprop(copyPay X Wt true r c ∗ copyPay X Wt false r c) := by
  rw [duties_copy X Wt c h, bigSep_univ_eq_bigSepL [true, false] (by decide) (by decide), bigSepL_cons_cons, bigSepL_singleton,
    payload_copy, payload_copy]
  rfl

end Sched

/-! ## What a device owes, and the levels -/

/-- What a device owes in direction `δ` before its transfer `r` and the return of its credit `k`: the rest of the
    receive rounds of the device one place down and of the credit rounds of the device one place up. -/
def owd (δ : Bool) (c : Dev nD) (r k : ℕ) : CellTallies nD τ sig ℕ :=
  (∑ j ∈ Finset.Ico r 14, tallyAt (cell (dn δ c) (recvK δ)) j N) + ∑ j ∈ Finset.Ico k 13, tallyAt (cell (up δ c) (credK δ)) j 1

theorem Ico_peel {a b : ℕ} (h : a < b) : Finset.Ico a b = insert a (Finset.Ico (a + 1) b) := by
  ext i; rw [Finset.mem_insert, Finset.mem_Ico, Finset.mem_Ico]; omega
theorem not_mem_Ico (a b : ℕ) : a ∉ Finset.Ico (a + 1) b := by rw [Finset.mem_Ico]; omega

theorem owd_recv (δ : Bool) (c : Dev nD) {r : ℕ} (k : ℕ) (h : r < 14) :
    owd δ c r k = owd δ c (r + 1) k + tallyAt (cell (dn δ c) (recvK δ)) r N := by
  unfold owd; rw [Ico_peel h, Finset.sum_insert (not_mem_Ico _ _)]
  rw [add_assoc, add_comm]
theorem owd_cred (δ : Bool) (c : Dev nD) (r : ℕ) {k : ℕ} (h : k < 13) :
    owd δ c r k = owd δ c r (k + 1) + tallyAt (cell (up δ c) (credK δ)) k 1 := by
  unfold owd; rw [Ico_peel h, Finset.sum_insert (not_mem_Ico _ _)]
  rw [add_comm (tallyAt _ _ _), add_assoc]
theorem owd_end (δ : Bool) (c : Dev nD) : owd δ c 14 13 = 0 := by
  unfold owd; rw [Finset.Ico_self, Finset.Ico_self, Finset.sum_empty, Finset.sum_empty, add_zero]

/-- What a device owes in both directions; at launch, the two barrier units besides. -/
def owb (c : Dev nD) (r k r' k' : ℕ) : CellTallies nD τ sig ℕ := owd true c r k + owd false c r' k'
def O₁ (c : Dev nD) : CellTallies nD τ sig ℕ := owb c 0 0 0 0 + tallyAt (cell (up false c) 7) 0 1
def O₀ (c : Dev nD) : CellTallies nD τ sig ℕ := O₁ c + tallyAt (cell (up true c) 7) 0 1

def L (g : GSem nD τ sig) : Finset ℕ := if g.1.2 = .tc then Finset.range 14 else ∅
def lvK (k : Fin 8) (u : ℕ) : ℕ := match k with | 1 | 3 => 2 * u + 2 | 5 | 6 => 2 * u + 3 | 7 => 1 | _ => 0
def lv (g : GSem nD τ sig) (u : ℕ) : ℕ := (kindOf g.2).elim 0 (fun k => lvK k u)

theorem L_of_ne (g : GSem nD τ sig) (h : g.1.2 ≠ .tc) : L g = ∅ := if_neg h
theorem L_tc (c : Dev nD) (sm : SemLoc sig) : L ((c : Thread nD τ), sm) = Finset.range 14 := if_pos rfl
theorem lv_cell (c : Dev nD) (k : Fin 8) (u : ℕ) : lv (cell c k) u = lvK k u := by unfold lv; rw [kindOf_csem]; rfl
theorem lv_recv (δ : Bool) (c : Dev nD) (u : ℕ) : lv (cell c (recvK δ)) u = 2 * u + 2 := by rw [lv_cell]; cases δ <;> rfl
theorem lv_cred (δ : Bool) (c : Dev nD) (u : ℕ) : lv (cell c (credK δ)) u = 2 * u + 3 := by rw [lv_cell]; cases δ <;> rfl

theorem sumTally_pos (g₀ : GSem nD τ sig) (a b n : ℕ) {g : GSem nD τ sig} {u : ℕ}
    (h : 0 < (∑ j ∈ Finset.Ico a b, (tallyAt g₀ j n : CellTallies nD τ sig ℕ)) g u) : g = g₀ ∧ a ≤ u ∧ u < b := by
  by_contra hn
  rw [Finset.sum_apply, Finsupp.finsetSum_apply, Finset.sum_eq_zero] at h
  · exact Nat.lt_irrefl 0 h
  · intro j hj
    rw [tallyAt_apply, if_neg]
    rintro ⟨rfl, rfl⟩
    exact hn ⟨rfl, Finset.mem_Ico.mp hj⟩

theorem owd_pos {δ : Bool} {c : Dev nD} {r k : ℕ} {g : GSem nD τ sig} {u : ℕ} (h : 0 < owd δ c r k g u) :
    (g = cell (dn δ c) (recvK δ) ∧ r ≤ u ∧ u < 14) ∨ (g = cell (up δ c) (credK δ) ∧ k ≤ u ∧ u < 13) := by
  unfold owd at h
  rw [Pi.add_apply, Finsupp.add_apply] at h
  rcases Nat.add_pos_iff_pos_or_pos.mp h with h | h
  · exact .inl (sumTally_pos _ _ _ _ h)
  · exact .inr (sumTally_pos _ _ _ _ h)

/-- Everything owed stands at a level above `b`, when the next receive and credit rounds do. -/
theorem owd_lv {δ : Bool} {c : Dev nD} {r k b : ℕ} (hr : b < 2 * r + 2) (hk : b < 2 * k + 3) {g : GSem nD τ sig} {u : ℕ}
    (h : 0 < owd δ c r k g u) : u ∈ L g ∧ b < lv g u := by
  rcases owd_pos h with ⟨rfl, h1, h2⟩ | ⟨rfl, h1, h2⟩
  · rw [L_tc, lv_recv]; exact ⟨Finset.mem_range.mpr h2, by omega⟩
  · rw [L_tc, lv_cred]; exact ⟨Finset.mem_range.mpr (by omega), by omega⟩
theorem owb_lv {c : Dev nD} {r k r' k' b : ℕ} (hr : b < 2 * r + 2) (hk : b < 2 * k + 3) (hr' : b < 2 * r' + 2) (hk' : b < 2 * k' + 3)
    {g : GSem nD τ sig} {u : ℕ} (h : 0 < owb c r k r' k' g u) : u ∈ L g ∧ b < lv g u := by
  unfold owb at h
  rw [Pi.add_apply, Finsupp.add_apply] at h
  rcases Nat.add_pos_iff_pos_or_pos.mp h with h | h
  · exact owd_lv hr hk h
  · exact owd_lv hr' hk' h

/-- A wait at index `ι < 14` on a semaphore of level `b` is allowed while only later rounds are owed. -/
theorem mayWait_owb (c : Dev nD) (sm : SemLoc sig) (ι b : ℕ) (hι : ι < 14) (hb : lv ((c : Thread nD τ), sm) ι = b) {r k r' k' : ℕ}
    (hr : b < 2 * r + 2) (hk : b < 2 * k + 3) (hr' : b < 2 * r' + 2) (hk' : b < 2 * k' + 3) :
    (levAts L lv : sProp 𝕄) ⊢ MayWait (c : Thread nD τ) sm ι (owb c r k r' k') :=
  MayOwe.of_cut (L := L) (lev := lv) b
    (fun p hp => by rw [Finset.mem_singleton.mp hp, L_tc]; exact Finset.mem_range.mpr hι)
    (fun g u hg => (owb_lv hr hk hr' hk' hg).1)
    (fun p hp => by rw [Finset.mem_singleton.mp hp]; exact hb.le)
    (fun g u hg => (owb_lv hr hk hr' hk' hg).2)

theorem O₀_lv {c : Dev nD} {g : GSem nD τ sig} {u : ℕ} (h : 0 < O₀ c g u) : u ∈ L g ∧ 0 < lv g u := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · exact owb_lv (by omega) (by omega) (by omega) (by omega) h
    · rw [tallyAt_apply] at h
      by_cases hh : g = cell (up false c) 7 ∧ u = 0
      · obtain ⟨rfl, rfl⟩ := hh
        rw [L_tc, lv_cell]; exact ⟨Finset.mem_range.mpr (by decide), Nat.one_pos⟩
      · rw [if_neg hh] at h; exact absurd h (Nat.lt_irrefl 0)
  · rw [tallyAt_apply] at h
    by_cases hh : g = cell (up true c) 7 ∧ u = 0
    · obtain ⟨rfl, rfl⟩ := hh
      rw [L_tc, lv_cell]; exact ⟨Finset.mem_range.mpr (by decide), Nat.one_pos⟩
    · rw [if_neg hh] at h; exact absurd h (Nat.lt_irrefl 0)

/-- The pipeline's own waits stand at level 0, below everything owed. -/
theorem mayWait_stage (c : Dev nD) (q : DmaSem sig) (hq : ∀ k, csem k ≠ .dma q) (O : CellTallies nD τ sig ℕ) (hO : O = O₀ c ∨ O = 0) :
    (levAts L lv : sProp 𝕄) ⊢ MayWait (c : Thread nD τ) (.dma q) 0 O := by
  rcases hO with rfl | rfl
  · refine MayOwe.of_cut (L := L) (lev := lv) 0
      (fun p hp => by rw [Finset.mem_singleton.mp hp, L_tc]; exact Finset.mem_range.mpr (Nat.zero_lt_succ 13))
      (fun g u hg => (O₀_lv hg).1) (fun p hp => ?_) (fun g u hg => (O₀_lv hg).2)
    rw [Finset.mem_singleton.mp hp]
    have hk : kindOf (.dma q) = none := by
      unfold kindOf; rw [List.find?_eq_none]; intro k _; rw [decide_eq_true_eq]; exact hq k
    unfold lv
    show (kindOf (.dma q)).elim 0 (fun k => lvK k 0) ≤ 0
    rw [hk]; exact le_refl 0
  · rw [MayWait_zero]; iintro -; iempintro

/-! ## The shared records -/

section Ctx

variable (X : Dev nD → Vec F S4096x512 .bf16) (Wt : Dev nD → Vec F S512x8192 .bf16) (K : Dev nD × Fin 8 → ℕ)

/-- Every cell's invariant, at the names `K`, and that every cell has reached round 0; the level facts. -/
def records : sProp 𝕄 :=
  iprop(bigSep Finset.univ (fun ck : Dev nD × Fin 8 => cellInv ER (sched X Wt) (K ck) (cell ck.1 ck.2))
    ∗ bigSep Finset.univ (fun ck : Dev nD × Fin 8 => reached ER (cell ck.1 ck.2) 0))
def ctx : sProp 𝕄 := iprop(records X Wt K ∗ levAts L lv)

instance records_persistent : BI.Persistent (records X Wt K) := by unfold records; infer_instance
instance ctx_persistent : BI.Persistent (ctx X Wt K) := by unfold ctx; infer_instance

theorem inv_all (ck : Dev nD × Fin 8) :
    bigSep Finset.univ (fun ck : Dev nD × Fin 8 => cellInv ER (sched X Wt) (K ck) (cell ck.1 ck.2))
      ⊢ cellInv ER (sched X Wt) (K ck) (cell ck.1 ck.2) :=
  bigSep_elim (Finset.mem_univ ck)
theorem reached_all (ck : Dev nD × Fin 8) :
    (bigSep Finset.univ (fun ck : Dev nD × Fin 8 => (reached ER (cell ck.1 ck.2) 0 : sProp 𝕄))) ⊢ reached ER (cell ck.1 ck.2) 0 :=
  bigSep_elim (Finset.mem_univ ck)

theorem ctx_inv (c : Dev nD) (k : Fin 8) : ctx X Wt K ⊢ cellInv ER (sched X Wt) (K (c, k)) (cell c k) := by
  unfold ctx records
  iintro ⟨⟨H, -⟩, -⟩
  iapply (inv_all X Wt K (c, k)) $$ H
theorem ctx_reached (c : Dev nD) (k : Fin 8) : ctx X Wt K ⊢ reached ER (cell c k) 0 := by
  unfold ctx records
  iintro ⟨⟨-, H⟩, -⟩
  iapply (reached_all (c, k)) $$ H
theorem ctx_lev : ctx X Wt K ⊢ levAts L lv := by
  unfold ctx
  iintro ⟨-, H⟩
  iexact H

end Ctx

/-- The first of a run of consecutive pieces, taken off. -/
theorem bigSep_Ico {M : Type} [URA M] {a b : ℕ} (h : a < b) (Φ : ℕ → sProp M) :
    bigSep (Finset.Ico a b) Φ = iprop(Φ a ∗ bigSep (Finset.Ico (a + 1) b) Φ) := by
  rw [Ico_peel h, bigSep_insert (not_mem_Ico _ _)]; rfl

end Cert.MatSilu

end
-- ==== Proof.Steps.lean ====
/- One rule per operation of the protocol: what a device holds before and after a wait for a credit, a transfer, a wait
   for a transfer, the return of a credit, a local copy. Each is stated once for both directions. -/
module

public import proofs.«01_k».proof.Proof.Proto

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What a device holds of the protocol -/

/-- It owes `O`, whatever it waited for. -/
def ow (c : Dev nD) (O : CellTallies nD τ sig ℕ) : sProp 𝕄 := iprop(∃ W, owes (c : Thread nD τ) O W)
/-- The permission for transfer `j`: the landing buffer of the device one place down. -/
def Perm (δ : Bool) (c : Dev nD) (j : ℕ) : sProp 𝕄 :=
  iprop((∃ f, coP δ (dn δ c) f) ∗ reached ER (cell (dn δ c) (recvK δ)) j ∗ reached ER (cell c (credK δ)) j)
/-- Its side of its credit cell from round `k` on. -/
def CW (δ : Bool) (c : Dev nD) (k : ℕ) : sProp 𝕄 :=
  iprop(atPos ER (cell c (credK δ)) k ∅ 0 ∗ bigSep (Finset.Ico k 13) (fun j => cred (tallyAt (cell c (credK δ)) j 1)))
/-- The duties its transfers from `j` on pay. -/
def SD (δ : Bool) (c : Dev nD) (j : ℕ) : sProp 𝕄 :=
  iprop(bigSep (Finset.Ico j 14) (fun i => dutyTok ER (cell c (sendK δ)) i true)
    ∗ bigSep (Finset.Ico j 14) (fun i => dutyTok ER (cell (dn δ c) (recvK δ)) i true))
/-- Its side of its send cell at round `j`. -/
def SW (δ : Bool) (c : Dev nD) (j : ℕ) : sProp 𝕄 :=
  iprop(atPos ER (cell c (sendK δ)) j ∅ 0 ∗ reached ER (cell c (sendK δ)) j)
/-- Its side of its receive cell from round `j` on. -/
def RW (δ : Bool) (c : Dev nD) (j : ℕ) : sProp 𝕄 :=
  iprop(atPos ER (cell c (recvK δ)) j ∅ 0 ∗ bigSep (Finset.Ico j 14) (fun i => cred (tallyAt (cell c (recvK δ)) i N)))
/-- The duties its credits from `k` on pay. -/
def CS (δ : Bool) (c : Dev nD) (k : ℕ) : sProp 𝕄 := bigSep (Finset.Ico k 13) (fun i => dutyTok ER (cell (up δ c) (credK δ)) i true)
/-- What it needs to return credit `j`. -/
def Ret (δ : Bool) (c : Dev nD) (j : ℕ) : sProp 𝕄 :=
  iprop(reached ER (cell (up δ c) (credK δ)) j ∗ reached ER (cell c (recvK δ)) (j + 1))
/-- Its side of its copy cell from round `r` on. -/
def CP (c : Dev nD) (r : ℕ) : sProp 𝕄 :=
  iprop(atPos ER (cell c 4) r ∅ 0 ∗ reached ER (cell c 4) r
    ∗ bigSep (Finset.Ico r 8) (fun i => iprop(dutyTok ER (cell c 4) i true ∗ dutyTok ER (cell c 4) i false)))

theorem credit_o (δ : Bool) (r : Dev nD) : (oSl δ r).view.dmaCredit = N := rfl
theorem credit_s (δ : Bool) : (sM δ).view.dmaCredit = N := by cases δ <;> rfl
theorem credit_c (δ : Bool) : (cM δ).view.dmaCredit = N := by cases δ <;> rfl
theorem amount_co (δ : Bool) : (cM δ).view.amount (.dma (recvS δ)) = N := credit_c δ
theorem amount_o (δ : Bool) (r : Dev nD) : (oSl δ r).view.amount (.dma copyS) = N := rfl

/-- The pieces taken and the pieces left make all of them. -/
theorem bigSep_rest {M I : Type} [URA M] [DecidableEq I] {s t : Finset I} (h : t ⊆ s) {Φ : I → sProp M} :
    iprop(bigSep t Φ ∗ bigSep (s \ t) Φ) = bigSep s Φ := (bigSep_sdiff_split h).symm

/-- The landing buffer as the transfer's destination names it: at some contents before, at what was written after. -/
theorem co_view (δ : Bool) (d : Dev nD) (v : Vec F S256x8192 .bf16) : ∃ fd : Buf (Elt F) ((cM δ).view.loc (d : Thread nD τ)),
    (coP δ d v : sProp 𝕄) = ((cM δ).view.loc (d : Thread nD τ) ↦[(cM δ).view.set]{fullShare} fd) := by
  cases δ
  · refine ⟨v, ?_⟩
    rw [show (cM false).view.set = Finset.univ from View.set_whole _]; unfold coP; rfl
  · refine ⟨v, ?_⟩
    rw [show (cM true).view.set = Finset.univ from View.set_whole _]; unfold coP; rfl
theorem co_written (δ : Bool) (d : Dev nD) (fd : Buf (Elt F) ((cM δ).view.loc (d : Thread nD τ))) (w : Vec F S256x8192 .bf16) :
    ((cM δ).view.loc (d : Thread nD τ) ↦[(cM δ).view.set]{fullShare} ((cM δ).view.write (Elt F) fd w Finset.univ) : sProp 𝕄) = coP δ d w := by
  cases δ
  · rw [show (cM false).view.set = Finset.univ from View.set_whole _,
      show (cM false).view.write (Elt F) fd w Finset.univ = w from View.write_whole_univ _ _ _]; rfl
  · rw [show (cM true).view.set = Finset.univ from View.set_whole _,
      show (cM true).view.write (Elt F) fd w Finset.univ = w from View.write_whole_univ _ _ _]; rfl

section Steps

variable (X : Dev nD → Vec F S4096x512 .bf16) (Wt : Dev nD → Vec F S512x8192 .bf16) (K : Dev nD × Fin 8 → ℕ)

/-- The wait for credit `k`. -/
theorem step_wait_cred (δ : Bool) (c : Dev nD) (k n : ℕ) (hk : k < 13) (hn : n = 1) {O : CellTallies nD τ sig ℕ}
    (hl : (levAts L lv : sProp 𝕄) ⊢ MayWait (c : Thread nD τ) (csem (credK δ)) k O)
    {α : Type} {Q : α → sProp 𝕄} {kk : PUnit → Prog (TpuEff nD τ sig (Elt F) Λ₀ .tc) α} :
    iprop(ctx X Wt K ∗ CW δ c k ∗ ow c O)
      ⊢ iprop(((CW δ c (k + 1) ∗ Perm δ c (k + 1) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait (credS δ) n) kk) Q) := by
  subst hn
  have he := expect_cred X Wt δ c hk
  have hr := rest_cred X Wt δ c hk
  unfold CW Perm ow
  rw [bigSep_Ico hk]
  iintro ⟨#Hctx, ⟨Hat, Hc, Hcs⟩, ⟨%W, HO⟩⟩ Hk
  ihave #Hi := (ctx_inv X Wt K c (credK δ)) $$ Hctx
  ihave #Hl := (ctx_lev X Wt K) $$ Hctx
  ihave #Hm := hl $$ Hl
  cases δ <;>
  · iapply (Rounds.wp_wait_rest_token 𝒱₀ ER (sched X Wt) (c : Thread nD τ) none (κ := K (c, credK _))
        (wpE_semWait_eq 𝒱₀ (c : Thread nD τ) none Set.univ) (Set.mem_univ _) k (O := O) (W := W) (R := k) (m := 0) (T := ∅)
        ((Nat.zero_add 1).trans he.symm)) $$ [Hc HO Hat]
    · isplitr; · iexact Hi
      isplitl [Hc]; · iexact Hc
      isplitl [HO]; · iexact HO
      isplitr; · iexact Hm
      iexact Hat
    iintro ⟨HO, Hat, #Hr, Hpay⟩
    ihave Hp := (Entails.of_eq hr) $$ Hpay
    unfold credPay
    icases Hp with ⟨Hf, Hrv⟩
    iapply Hk
    isplitl [Hat Hcs]
    · isplitl [Hat]; · iexact Hat
      iexact Hcs
    isplitr [HO]
    · isplitl [Hf]; · iexact Hf
      isplitl [Hrv]; · iexact Hrv
      iexact Hr
    iexists _; iexact HO

/-- Transfer `j`, from any source holding what is to be sent. -/
theorem step_send (δ : Bool) (c n : Dev nD) (j : ℕ) (hj : j < 14) (hn : n = dn δ c) {sp : Space}
    {v : Memref sig .tc sp S256x8192 .bf16} {fs : Buf (Elt F) (v.view.loc (c : Thread nD τ))}
    (hread : v.view.read (Elt F) fs = srcV X Wt δ j c)
    (hpay : (v.view.loc (c : Thread nD τ) ↦[v.view.set]{fullShare} fs) ⊢ sendPay X Wt δ j c)
    {hsc : (cM δ : Memref sig (Dev.tc n : Thread nD τ).2.kind .vmem S256x8192 .bf16).view.ref.isScScratch = false}
    {hsrc : v.view.WordExact} {hdst : (cM δ).view.WordExact}
    {hsem : DmaTarget.Typed sp (.dma (recvS δ)) (.remote (Dev.tc n : Thread nD τ) (cM δ) (.dma (sendS δ)) hsc)}
    {O₀ O : CellTallies nD τ sig ℕ} (hO : O₀ = O + tallyAt (cell (dn δ c) (recvK δ)) j N)
    {α : Type} {Q : α → sProp 𝕄} {kk : PUnit → Prog (TpuEff nD τ sig (Elt F) Λ₀ .tc) α} :
    iprop(ctx X Wt K ∗ (v.view.loc (c : Thread nD τ) ↦[v.view.set]{fullShare} fs) ∗ Perm δ c j ∗ SD δ c j ∗ SW δ c j ∗ ow c O₀)
      ⊢ iprop(((SD δ c (j + 1) ∗ cred (tallyAt (cell c (sendK δ)) 0 N) ∗ SW δ c j ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma v (.remote (Dev.tc n : Thread nD τ) (cM δ) (.dma (sendS δ)) hsc) (.dma (recvS δ)) hsrc hdst hsem) kk) Q) := by
  subst hn
  have hd₁ : true ∈ (sched X Wt).duties (cell c (sendK δ)) j := by rw [duties_send X Wt δ c hj]; exact Finset.mem_singleton_self _
  have hd₂ : true ∈ (sched X Wt).duties (cell (dn δ c) (recvK δ)) j := by rw [duties_recv X Wt δ _ hj]; exact Finset.mem_singleton_self _
  have ha₁ := amount_send X Wt δ c j true
  have ha₂ := amount_recv X Wt δ (dn δ c) j true
  have hp₁ := hpay.trans (Entails.of_eq (payload_send X Wt δ c j true).symm)
  have hp₂ : ∀ fd : Buf (Elt F) ((cM δ).view.loc (dn δ c : Thread nD τ)),
      iprop(((cM δ).view.loc (dn δ c : Thread nD τ) ↦[(cM δ).view.set]{fullShare} ((cM δ).view.write (Elt F) fd (v.view.read (Elt F) fs) Finset.univ))
        ∗ reached ER (cell c (credK δ)) j)
      ⊢ (sched X Wt).payload (cell (dn δ c) (recvK δ)) j true := by
    intro fd
    rw [co_written, payload_recv, hread]; unfold recvPay; rw [recvV_dn, up_dn]
  have hN := amount_co δ
  unfold SD SW Perm ow
  rw [bigSep_Ico hj, bigSep_Ico hj]
  iintro ⟨#Hctx, Hs, ⟨⟨%f, Hd⟩, #Hrv, #Hrc⟩, ⟨⟨Ht1, Hts1⟩, ⟨Ht2, Hts2⟩⟩, ⟨Hat, #Hrs⟩, ⟨%W, HO⟩⟩ Hk
  obtain ⟨fd, hfd⟩ := co_view (F := F) δ (dn δ c) f
  ihave Hd := (Entails.of_eq hfd) $$ Hd
  ihave #Hi1 := (ctx_inv X Wt K c (sendK δ)) $$ Hctx
  ihave #Hi2 := (ctx_inv X Wt K (dn δ c) (recvK δ)) $$ Hctx
  cases δ <;>
  · iapply (Rounds.wp_send_pointsTo_with 𝒱₀ ER (sched X Wt) (c : Thread nD τ) none (κ₁ := K (c, sendK _)) (κ₂ := K (dn _ c, recvK _))
        (F := reached ER (cell c (credK _)) j)
        (fd := fd) (r₁ := j) (r₂ := j) (d₁ := true) (d₂ := true) hd₁ hd₂ j 0 N hN ha₁ ha₂ O hO (W := W) hp₁ (hp₂ fd)) $$ [Hs Hd HO Ht1 Ht2]
    · isplitr; · iexact Hi1
      isplitr; · iexact Hi2
      isplitl [Hs]; · iexact Hs
      isplitl [Hd]
      · isplitl [Hd]
        · iexact Hd
        · iexact Hrc
      isplitl [HO]; · iexact HO
      isplitl [Ht1]; · iexact Ht1
      isplitr; · iexact Hrs
      isplitl [Ht2]; · iexact Ht2
      iexact Hrv
    iintro ⟨Hc, HO⟩
    iapply Hk
    isplitl [Hts1 Hts2]
    · isplitl [Hts1]; · iexact Hts1
      iexact Hts2
    isplitl [Hc]; · iexact Hc
    isplitl [Hat]
    · isplitl [Hat]; · iexact Hat
      iexact Hrs
    iexists _; iexact HO

/-- The wait for what lands with transfer `j` of the device one place up. -/
theorem step_wait_recv (δ : Bool) (c : Dev nD) (j : ℕ) (hj : j < 14) {O : CellTallies nD τ sig ℕ}
    (hl : (levAts L lv : sProp 𝕄) ⊢ MayWait (c : Thread nD τ) (csem (recvK δ)) j O)
    {sp sp' : Space} {s s' : Shape} {e e' : EltTy} {src : Memref sig .tc sp' s' e'} {κ' : Kind} {dst : Memref sig κ' sp s e} (hd : dst.view.dmaCredit = N)
    {hsrc : src.view.WordExact} {hdst : dst.view.WordExact}
    {α : Type} {Q : α → sProp 𝕄} {kk : PUnit → Prog (TpuEff nD τ sig (Elt F) Λ₀ .tc) α} :
    iprop(ctx X Wt K ∗ RW δ c j ∗ ow c O)
      ⊢ iprop(((RW δ c (j + 1) ∗ coP δ c (recvV X Wt δ j c) ∗ Ret δ c j ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS δ) src dst hsrc hdst) kk) Q) := by
  have he := expect_recv X Wt δ c hj
  have hr := rest_recv X Wt δ c hj
  unfold RW Ret ow
  rw [bigSep_Ico hj, ← hd]
  iintro ⟨#Hctx, ⟨Hat, Hc, Hcs⟩, ⟨%W, HO⟩⟩ Hk
  ihave #Hi := (ctx_inv X Wt K c (recvK δ)) $$ Hctx
  ihave #Hl := (ctx_lev X Wt K) $$ Hctx
  ihave #Hm := hl $$ Hl
  cases δ <;>
  · iapply (Rounds.wp_wait_rest_token 𝒱₀ ER (sched X Wt) (c : Thread nD τ) none (κ := K (c, recvK _))
        (wpE_waitDma2_eq 𝒱₀ (c : Thread nD τ) none Set.univ) (Set.mem_univ _) j (O := O) (W := W) (R := j) (m := 0) (T := ∅)
        ((Nat.zero_add _).trans (hd.trans he.symm))) $$ [Hc HO Hat]
    · isplitr; · iexact Hi
      isplitl [Hc]; · iexact Hc
      isplitl [HO]; · iexact HO
      isplitr; · iexact Hm
      iexact Hat
    iintro ⟨HO, Hat, #Hr, Hpay⟩
    ihave Hp := (Entails.of_eq hr) $$ Hpay
    unfold recvPay
    icases Hp with ⟨Hf, Hrc⟩
    iapply Hk
    isplitl [Hat Hcs]
    · isplitl [Hat]; · iexact Hat
      iexact Hcs
    isplitl [Hf]; · iexact Hf
    isplitl [Hrc]
    · isplitl [Hrc]; · iexact Hrc
      iexact Hr
    iexists _; iexact HO

/-- The wait for its own transfer `j` to have left: the source back. -/
theorem step_wait_send (δ : Bool) (c : Dev nD) (j : ℕ) (hj : j < 14) {O : CellTallies nD τ sig ℕ}
    (hl : (levAts L lv : sProp 𝕄) ⊢ MayWait (c : Thread nD τ) (csem (sendK δ)) 0 O)
    {sp sp' : Space} {s s' : Shape} {e e' : EltTy} {src : Memref sig .tc sp' s' e'} {κ' : Kind} {dst : Memref sig κ' sp s e} (hd : dst.view.dmaCredit = N)
    {hsrc : src.view.WordExact} {hdst : dst.view.WordExact}
    {α : Type} {Q : α → sProp 𝕄} {kk : PUnit → Prog (TpuEff nD τ sig (Elt F) Λ₀ .tc) α} :
    iprop(ctx X Wt K ∗ SW δ c j ∗ cred (tallyAt (cell c (sendK δ)) 0 N) ∗ ow c O)
      ⊢ iprop(((SW δ c (j + 1) ∗ sendPay X Wt δ j c ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS δ) src dst hsrc hdst) kk) Q) := by
  have he := expect_send X Wt δ c hj
  have hr := rest_send X Wt δ c hj
  unfold SW ow
  rw [← hd]
  iintro ⟨#Hctx, ⟨Hat, -⟩, Hc, ⟨%W, HO⟩⟩ Hk
  ihave #Hi := (ctx_inv X Wt K c (sendK δ)) $$ Hctx
  ihave #Hl := (ctx_lev X Wt K) $$ Hctx
  ihave #Hm := hl $$ Hl
  cases δ <;>
  · iapply (Rounds.wp_wait_rest_token 𝒱₀ ER (sched X Wt) (c : Thread nD τ) none (κ := K (c, sendK _))
        (wpE_waitDma2_eq 𝒱₀ (c : Thread nD τ) none Set.univ) (Set.mem_univ _) 0 (O := O) (W := W) (R := j) (m := 0) (T := ∅)
        ((Nat.zero_add _).trans (hd.trans he.symm))) $$ [Hc HO Hat]
    · isplitr; · iexact Hi
      isplitl [Hc]; · iexact Hc
      isplitl [HO]; · iexact HO
      isplitr; · iexact Hm
      iexact Hat
    iintro ⟨HO, Hat, #Hr, Hpay⟩
    ihave Hp := (Entails.of_eq hr) $$ Hpay
    iapply Hk
    isplitl [Hat]
    · isplitl [Hat]; · iexact Hat
      iexact Hr
    isplitl [Hp]; · iexact Hp
    iexists _; iexact HO

/-- The return of credit `k`: the landing buffer handed to the device one place up. -/
theorem step_signal_cred (δ : Bool) (c n : Dev nD) (k m : ℕ) (hk : k < 13) (hn : n = up δ c) (hm : m = 1)
    {O₀ O : CellTallies nD τ sig ℕ} (hO : O₀ = O + tallyAt (cell (up δ c) (credK δ)) k 1) {v : Vec F S256x8192 .bf16}
    {α : Type} {Q : α → sProp 𝕄} {kk : PUnit → Prog (TpuEff nD τ sig (Elt F) Λ₀ .tc) α} :
    iprop(ctx X Wt K ∗ CS δ c k ∗ Ret δ c k ∗ coP δ c v ∗ ow c O₀)
      ⊢ iprop(((CS δ c (k + 1) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) (credS δ) m) kk) Q) := by
  subst hn hm
  have hd : true ∈ (sched X Wt).duties (cell (up δ c) (credK δ)) k := by rw [duties_cred X Wt δ _ hk]; exact Finset.mem_singleton_self _
  have ha := amount_cred X Wt δ (up δ c) k true
  have hp : iprop(coP δ c v ∗ reached ER (cell c (recvK δ)) (k + 1)) ⊢ (sched X Wt).payload (cell (up δ c) (credK δ)) k true := by
    rw [payload_cred]; unfold credPay; rw [dn_up]
    iintro ⟨H, Hr⟩
    isplitl [H]; · iexists v; iexact H
    iexact Hr
  unfold CS Ret ow
  rw [bigSep_Ico hk]
  iintro ⟨#Hctx, ⟨Ht, Hts⟩, ⟨#Hrc, #Hrv⟩, Hco, ⟨%W, HO⟩⟩ Hk
  ihave #Hi := (ctx_inv X Wt K (up δ c) (credK δ)) $$ Hctx
  ihave Hp := hp $$ [Hco]
  · isplitl [Hco]; · iexact Hco
    iexact Hrv
  cases δ <;>
  · iapply (Rounds.wp_signal 𝒱₀ ER (sched X Wt) (c : Thread nD τ) none (dst := (up _ c : Thread nD τ)) (κ := K (up _ c, credK _))
        (d := true) hd ha k O hO) $$ [HO Ht Hp]
    · isplitr; · iexact Hi
      isplitl [HO]; · iexact HO
      isplitl [Ht]; · iexact Ht
      isplitl [Hp]; · iexact Hp
      iexact Hrc
    iintro HO
    iapply Hk
    isplitl [Hts]; · iexact Hts
    iexists _; iexact HO

/-- The start of a local copy of a finished half chunk into the result. -/
theorem step_copy (δ : Bool) (c : Dev nD) (r : ℕ) (hr : r < 8) {sp : Space}
    {v : Memref sig .tc sp S256x8192 .bf16} {fs : Buf (Elt F) (v.view.loc (c : Thread nD τ))} {o : Memref sig .tc .hbm S256x8192 .bf16}
    (ho : o = oSl δ (fl (anc δ r c)))
    (hread : v.view.read (Elt F) fs = fin X Wt δ (anc δ r c))
    (hpay : (v.view.loc (c : Thread nD τ) ↦[v.view.set]{fullShare} fs)
      ⊢ (if r = 0 then stP δ c (fin X Wt δ c) else coP δ c (recvV X Wt δ (6 + r) c)))
    {hsrc : v.view.WordExact} {hdst : o.view.WordExact} {hsem : DmaTarget.Typed (nD := nD) sp (.dma copyS) (.here (p := .tc) o)}
    {f : Vec F S4096x8192 .bf16}
    {α : Type} {Q : α → sProp 𝕄} {kk : PUnit → Prog (TpuEff nD τ sig (Elt F) Λ₀ .tc) α} :
    iprop(ctx X Wt K ∗ (v.view.loc (c : Thread nD τ) ↦[v.view.set]{fullShare} fs) ∗ oP c (δ, fl (anc δ r c)) f
        ∗ dutyTok ER (cell c 4) r δ ∗ reached ER (cell c 4) r)
      ⊢ iprop((cred (tallyAt (cell c 4) 0 N) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma v (.here o) (.dma copyS) hsrc hdst hsem) kk) Q) := by
  subst ho
  have hd : δ ∈ (sched X Wt).duties ((c : Thread nD τ), .dma copyS) r := by
    rw [show (sched X Wt).duties ((c : Thread nD τ), .dma copyS) r = Finset.univ from duties_copy X Wt c hr]; exact Finset.mem_univ _
  have ha : (sched X Wt).amount ((c : Thread nD τ), .dma copyS) r δ = N := amount_copy X Wt c r δ
  have hp : iprop(((oSl δ (fl (anc δ r c))).view.loc (c : Thread nD τ)
        ↦[(oSl δ (fl (anc δ r c))).view.set]{fullShare} ((oSl δ (fl (anc δ r c))).view.write (Elt F) f (v.view.read (Elt F) fs) Finset.univ))
        ∗ (v.view.loc (c : Thread nD τ) ↦[v.view.set]{fullShare} fs)) ⊢ (sched X Wt).payload ((c : Thread nD τ), .dma copyS) r δ := by
    rw [show (sched X Wt).payload ((c : Thread nD τ), .dma copyS) r δ = copyPay X Wt δ r c from payload_copy X Wt c r δ]; unfold copyPay
    refine sep_mono (Entails.of_eq ?_) hpay
    rw [hread]
    exact pointsTo_congr fun i hi => by
      have h := write_outV X Wt δ (fl (anc δ r c)) f i hi
      rw [fl_fl] at h; exact h
  have hN := amount_o δ (fl (anc δ r c))
  iintro ⟨#Hctx, Hs, Ho, Ht, Hr⟩ Hk
  ihave #Hi := (ctx_inv X Wt K c 4) $$ Hctx
  iapply (Rounds.wp_copy_pointsTo 𝒱₀ ER (sched X Wt) (c : Thread nD τ) none (src := v) (dst := oSl δ (fl (anc δ r c))) (fs := fs) (q := fullShare) (κ := K (c, 4)) (r := r) (d := δ) (fd := f)
      hd 0 N hN ha hp) $$ [Hs Ho Ht Hr]
  · isplitr; · iexact Hi
    isplitl [Hs]; · iexact Hs
    isplitl [Ho]; · unfold oP; iexact Ho
    isplitl [Ht]; · iexact Ht
    iexact Hr
  iexact Hk

/-- The two waits for the two copies of round `r`: everything back, the half chunks of the result written. -/
theorem step_wait_copies (c : Dev nD) (r : ℕ) (hr : r < 8) {O : CellTallies nD τ sig ℕ}
    (hl : (levAts L lv : sProp 𝕄) ⊢ MayWait (c : Thread nD τ) (csem 4) 0 O)
    {sp₁ sp₁' sp₂ sp₂' : Space} {s₁ s₁' s₂ s₂' : Shape} {e₁ e₁' e₂ e₂' : EltTy}
    {src₁ : Memref sig .tc sp₁' s₁' e₁'} {κ₁ : Kind} {dst₁ : Memref sig κ₁ sp₁ s₁ e₁} (hd₁ : dst₁.view.dmaCredit = N)
    {src₂ : Memref sig .tc sp₂' s₂' e₂'} {κ₂ : Kind} {dst₂ : Memref sig κ₂ sp₂ s₂ e₂} (hd₂ : dst₂.view.dmaCredit = N)
    {hs₁ : src₁.view.WordExact} {ht₁ : dst₁.view.WordExact} {hs₂ : src₂.view.WordExact} {ht₂ : dst₂.view.WordExact}
    {α : Type} {Q : α → sProp 𝕄} {kk : PUnit → Prog (TpuEff nD τ sig (Elt F) Λ₀ .tc) α} :
    iprop(ctx X Wt K ∗ atPos ER (cell c 4) r ∅ 0 ∗ cred (tallyAt (cell c 4) 0 N) ∗ cred (tallyAt (cell c 4) 0 N) ∗ ow c O)
      ⊢ iprop(((atPos ER (cell c 4) (r + 1) ∅ 0 ∗ reached ER (cell c 4) (r + 1) ∗ copyPay X Wt true r c ∗ copyPay X Wt false r c ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 copyS src₁ dst₁ hs₁ ht₁) fun _ => .op (.waitDma2 copyS src₂ dst₂ hs₂ ht₂) kk) Q) := by
  have he := expect_copy X Wt c hr
  unfold ow
  iintro ⟨#Hctx, Hat, Hc1, Hc2, ⟨%W, HO⟩⟩ Hk
  ihave #Hi := (ctx_inv X Wt K c 4) $$ Hctx
  ihave #Hl := (ctx_lev X Wt K) $$ Hctx
  ihave #Hm := hl $$ Hl
  iapply (Rounds.wp_wait 𝒱₀ ER (sched X Wt) (c : Thread nD τ) none (κ := K (c, 4)) (k' := N)
      (fun Kt => (wpE_waitDma2_eq 𝒱₀ (c : Thread nD τ) none Set.univ Kt).trans (by rw [hd₁])) (Set.mem_univ _)
      (cr := Finsupp.single 0 N) (O := O) (W := W) {(SemLoc.dma copyS, 0)} (R := r) (m := 0) (T := ∅)
      (by rw [Util.total_single]) (image_single_subset (SemLoc.dma copyS) 0 N)) $$ [Hc1 HO Hat]
  · isplitr; · iexact Hi
    isplitl [Hc1]; · iexact Hc1
    isplitl [HO]; · iexact HO
    isplitr; · iexact Hm
    iexact Hat
  iintro %S ⟨%hS, HO, Hat, Hpay⟩
  iapply (Rounds.wp_wait_rest_token 𝒱₀ ER (sched X Wt) (c : Thread nD τ) none (κ := K (c, 4)) (k' := N)
      (fun Kt => (wpE_waitDma2_eq 𝒱₀ (c : Thread nD τ) none Set.univ Kt).trans (by rw [hd₂])) (Set.mem_univ _) 0 (O := O)
      (R := r) (m := 0 + N) (T := S) (by rw [Nat.zero_add]; exact he.symm)) $$ [Hc2 HO Hat]
  · isplitr; · iexact Hi
    isplitl [Hc2]; · iexact Hc2
    isplitl [HO]; · iexact HO
    isplitr; · iexact Hm
    iexact Hat
  iintro ⟨HO, Hat, Hr, Hpay2⟩
  iapply Hk
  isplitl [Hat]; · iexact Hat
  isplitl [Hr]; · iexact Hr
  ihave Hp := (Entails.of_eq ((bigSep_rest (Φ := fun d => (sched X Wt).payload (cell c 4) r d) hS.2.1).trans (all_copy X Wt c hr))) $$ [Hpay Hpay2]
  · isplitl [Hpay]
    · rw [Finset.sdiff_empty]; iexact Hpay
    · iexact Hpay2
  icases Hp with ⟨H1, H2⟩
  isplitl [H1]; · iexact H1
  isplitl [H2]; · iexact H2
  iexists _; iexact HO

end Steps

end Cert.MatSilu

end
-- ==== Proof.Mem.lean ====
/- The loads and stores of the kernel: whole staging and landing buffers, a half chunk's rows of `x`, the two halves of
   the accumulator. -/
module

public import proofs.«01_k».proof.Proof.Steps

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

theorem hz : (![0, 0] : Fin 2 → Nat) = fun _ => 0 := funext fun a => by fin_cases a <;> rfl

/-- The operands' blocks and the accumulator, held whole. -/
def xP (c : Dev nD) (v : Vec F S4096x512 .bf16) : sProp 𝕄 := ((c : Thread nD τ).loc cc0_stg0_0) ↦{fullShare} v
def wP (c : Dev nD) (v : Vec F S512x8192 .bf16) : sProp 𝕄 := ((c : Thread nD τ).loc cc0_stg1_0) ↦{fullShare} v
def aP (c : Dev nD) (v : Vec F S512x8192 .bf16) : sProp 𝕄 := ((c : Thread nD τ).loc cc0_scratch0) ↦{fullShare} v

/-- The accumulator's halves. -/
abbrev aRect (δ : Bool) : Rect S512x8192 :=
  match δ with
  | true => Rect.unit (s := S512x8192) ![0, 0] S256x8192.size inb_S512x8192_S256x8192_0_0
  | false => Rect.unit (s := S512x8192) ![256, 0] S256x8192.size inb_S512x8192_S256x8192_256_0

/-- The accumulator after its first, then its second half is written. -/
def wT (f : Vec F S512x8192 .bf16) (p : Vec F S256x8192 .bf16) : Vec F S512x8192 .bf16 :=
  (aM.access (aRect true) : View sig .tc _ _ _).write (Elt F) f p Finset.univ
def wB (f : Vec F S512x8192 .bf16) (p : Vec F S256x8192 .bf16) : Vec F S512x8192 .bf16 :=
  (aM.access (aRect false) : View sig .tc _ _ _).write (Elt F) f p Finset.univ

theorem aRect_disjoint : Disjoint (aM.view.slice (aRect true)).set ((aM.view.slice (aRect false)).setOn Finset.univ) := by
  rw [show (aM.view.slice (aRect true)).set = (aRect true).set from View.set_slice_whole _ _,
    show (aM.view.slice (aRect false)).setOn Finset.univ = (aRect false).set from View.set_slice_whole _ _, Finset.disjoint_left]
  intro i h h'
  have h1 := (Rect.mem_set_unit.mp h) 0
  have h2 := (Rect.mem_set_unit.mp h') 0
  have h3 : (i 0).val < 0 + 256 := h1.2
  have h4 : 256 ≤ (i 0).val := h2.1
  omega

theorem read_top (f : Vec F S512x8192 .bf16) (p q : Vec F S256x8192 .bf16) :
    aM.view.readAt (Elt F) (aRect true).toLoadRect (wB (wT f p) q) = p := by
  rw [View.readAt_rect]
  show (aM.view.slice (aRect true)).read (Elt F) ((aM.view.slice (aRect false)).write (Elt F) (wT f p) q Finset.univ) = p
  rw [View.read_slice_write_slice_of_disjoint (v := aM.view) _ _ _ _ _ aRect_disjoint]
  funext j
  exact View.read_slice_write_emb (v := aM.view) (aRect true) f p (M := Finset.univ) (Finset.mem_univ j)
theorem read_bot (f : Vec F S512x8192 .bf16) (q : Vec F S256x8192 .bf16) :
    aM.view.readAt (Elt F) (aRect false).toLoadRect (wB f q) = q := by
  rw [View.readAt_rect]
  funext j
  exact View.read_slice_write_emb (v := aM.view) (aRect false) f q (M := Finset.univ) (Finset.mem_univ j)

section Rules

variable {α : Type}

theorem load_x (c : Dev nD) (δ : Bool) (r : Dev nD) (o : Fin 2 → Nat) {h : ∀ a, o a + S256x512.size a ≤ S4096x512.size a} (ho : o = roff δ r)
    {hl : xM.view.LoadsAt (Rect.unit (s := S4096x512) o S256x512.size h).toLoadRect} {x : Vec F S4096x512 .bf16} {Q : α → sProp 𝕄}
    {kk : Vec F S256x512 .bf16 → Prog (TpuEff nD τ sig (Elt F) Λ₀ .tc) α} :
    xP c x ⊢ iprop((xP c x -∗ wp frame (wpE (defs₀ (F := F)) 𝒱₀ (c : Thread nD τ) none) Set.univ (kk (rows δ r x)) Q)
      -∗ wp frame (wpE (defs₀ (F := F)) 𝒱₀ (c : Thread nD τ) none) Set.univ (.op (.load xM (Rect.unit (s := S4096x512) o S256x512.size h).toLoadRect hl) kk) Q) := by
  have e : xM.view.readAt (Elt F) (Rect.unit (s := S4096x512) o S256x512.size h).toLoadRect x = rows δ r x := rows_of δ r o h ho x
  unfold xP
  iintro H Hk
  iapply (wp_load 𝒱₀ (c : Thread nD τ) none Set.univ (m := xM) (Finset.subset_univ _)) $$ H
  iintro H
  rw [e]
  iapply Hk
  iexact H

theorem load_w (c : Dev nD) {h : ∀ a, (![0, 0] : Fin 2 → Nat) a + S512x8192.size a ≤ S512x8192.size a}
    {hl : wM.view.LoadsAt (Rect.unit (s := S512x8192) ![0, 0] S512x8192.size h).toLoadRect} {x : Vec F S512x8192 .bf16} {Q : α → sProp 𝕄}
    {kk : Vec F S512x8192 .bf16 → Prog (TpuEff nD τ sig (Elt F) Λ₀ .tc) α} :
    wP c x ⊢ iprop((wP c x -∗ wp frame (wpE (defs₀ (F := F)) 𝒱₀ (c : Thread nD τ) none) Set.univ (kk x) Q)
      -∗ wp frame (wpE (defs₀ (F := F)) 𝒱₀ (c : Thread nD τ) none) Set.univ (.op (.load wM (Rect.unit (s := S512x8192) ![0, 0] S512x8192.size h).toLoadRect hl) kk) Q) := by
  have e : wM.view.readAt (Elt F) (Rect.unit (s := S512x8192) ![0, 0] S512x8192.size h).toLoadRect x = x := Memref.readAt_unit_zero (Elt F) cc0_stg1_0 hz _ x
  unfold wP
  iintro H Hk
  iapply (wp_load 𝒱₀ (c : Thread nD τ) none Set.univ (m := wM) (Finset.subset_univ _)) $$ H
  iintro H
  rw [e]
  iapply Hk
  iexact H

theorem load_st (δ : Bool) (c : Dev nD) {h : ∀ a, (![0, 0] : Fin 2 → Nat) a + S256x8192.size a ≤ S256x8192.size a}
    {hl : (sM δ).view.LoadsAt (Rect.unit (s := S256x8192) ![0, 0] S256x8192.size h).toLoadRect} {x : Vec F S256x8192 .bf16} {Q : α → sProp 𝕄}
    {kk : Vec F S256x8192 .bf16 → Prog (TpuEff nD τ sig (Elt F) Λ₀ .tc) α} :
    stP δ c x ⊢ iprop((stP δ c x -∗ wp frame (wpE (defs₀ (F := F)) 𝒱₀ (c : Thread nD τ) none) Set.univ (kk x) Q)
      -∗ wp frame (wpE (defs₀ (F := F)) 𝒱₀ (c : Thread nD τ) none) Set.univ (.op (.load (sM δ) (Rect.unit (s := S256x8192) ![0, 0] S256x8192.size h).toLoadRect hl) kk) Q) := by
  cases δ
  · have e : (sM false).view.readAt (Elt F) (Rect.unit (s := S256x8192) ![0, 0] S256x8192.size h).toLoadRect x = x :=
      Memref.readAt_unit_zero (Elt F) cc0_scratch2 hz _ x
    unfold stP
    iintro H Hk
    iapply (wp_load 𝒱₀ (c : Thread nD τ) none Set.univ (m := sM false) (Finset.subset_univ _)) $$ H
    iintro H
    rw [e]
    iapply Hk
    iexact H
  · have e : (sM true).view.readAt (Elt F) (Rect.unit (s := S256x8192) ![0, 0] S256x8192.size h).toLoadRect x = x :=
      Memref.readAt_unit_zero (Elt F) cc0_scratch1 hz _ x
    unfold stP
    iintro H Hk
    iapply (wp_load 𝒱₀ (c : Thread nD τ) none Set.univ (m := sM true) (Finset.subset_univ _)) $$ H
    iintro H
    rw [e]
    iapply Hk
    iexact H

theorem load_co (δ : Bool) (c : Dev nD) {h : ∀ a, (![0, 0] : Fin 2 → Nat) a + S256x8192.size a ≤ S256x8192.size a}
    {hl : (cM δ).view.LoadsAt (Rect.unit (s := S256x8192) ![0, 0] S256x8192.size h).toLoadRect} {x : Vec F S256x8192 .bf16} {Q : α → sProp 𝕄}
    {kk : Vec F S256x8192 .bf16 → Prog (TpuEff nD τ sig (Elt F) Λ₀ .tc) α} :
    coP δ c x ⊢ iprop((coP δ c x -∗ wp frame (wpE (defs₀ (F := F)) 𝒱₀ (c : Thread nD τ) none) Set.univ (kk x) Q)
      -∗ wp frame (wpE (defs₀ (F := F)) 𝒱₀ (c : Thread nD τ) none) Set.univ (.op (.load (cM δ) (Rect.unit (s := S256x8192) ![0, 0] S256x8192.size h).toLoadRect hl) kk) Q) := by
  cases δ
  · have e : (cM false).view.readAt (Elt F) (Rect.unit (s := S256x8192) ![0, 0] S256x8192.size h).toLoadRect x = x :=
      Memref.readAt_unit_zero (Elt F) cc0_scratch4 hz _ x
    unfold coP
    iintro H Hk
    iapply (wp_load 𝒱₀ (c : Thread nD τ) none Set.univ (m := cM false) (Finset.subset_univ _)) $$ H
    iintro H
    rw [e]
    iapply Hk
    iexact H
  · have e : (cM true).view.readAt (Elt F) (Rect.unit (s := S256x8192) ![0, 0] S256x8192.size h).toLoadRect x = x :=
      Memref.readAt_unit_zero (Elt F) cc0_scratch3 hz _ x
    unfold coP
    iintro H Hk
    iapply (wp_load 𝒱₀ (c : Thread nD τ) none Set.univ (m := cM true) (Finset.subset_univ _)) $$ H
    iintro H
    rw [e]
    iapply Hk
    iexact H

theorem store_st (δ : Bool) (c : Dev nD) {h : ∀ a, (![0, 0] : Fin 2 → Nat) a + S256x8192.size a ≤ S256x8192.size a} {w : Vec F S256x8192 .bf16}
    {hx : ((sM δ).access (Rect.unit (s := S256x8192) ![0, 0] S256x8192.size h)).Stores Finset.univ} {hm : (Finset.univ : Finset S256x8192.Idx) = Finset.univ ∨ ∀ a, (Rect.unit (s := S256x8192) ![0, 0] S256x8192.size h).stride a = 1}
    {x : Vec F S256x8192 .bf16} {Q : α → sProp 𝕄} {kk : PUnit → Prog (TpuEff nD τ sig (Elt F) Λ₀ .tc) α} :
    stP δ c x ⊢ iprop((stP δ c w -∗ wp frame (wpE (defs₀ (F := F)) 𝒱₀ (c : Thread nD τ) none) Set.univ (kk ⟨⟩) Q)
      -∗ wp frame (wpE (defs₀ (F := F)) 𝒱₀ (c : Thread nD τ) none) Set.univ (.op (.store (sM δ) (Rect.unit (s := S256x8192) ![0, 0] S256x8192.size h) w Finset.univ hx hm) kk) Q) := by
  cases δ
  · have e : ((sM false).access (Rect.unit (s := S256x8192) ![0, 0] S256x8192.size h) : View sig .tc _ _ _).write (Elt F) x w Finset.univ = w :=
      Memref.write_access_unit_zero_univ (Elt F) cc0_scratch2 hz _ x w
    unfold stP
    iintro H Hk
    iapply (wp_store 𝒱₀ (c : Thread nD τ) none Set.univ (m := sM false) (r := Rect.unit (s := S256x8192) ![0, 0] S256x8192.size h) (Mk := Finset.univ) (Finset.subset_univ _)) $$ H
    iintro H
    rw [e]
    iapply Hk
    iexact H
  · have e : ((sM true).access (Rect.unit (s := S256x8192) ![0, 0] S256x8192.size h) : View sig .tc _ _ _).write (Elt F) x w Finset.univ = w :=
      Memref.write_access_unit_zero_univ (Elt F) cc0_scratch1 hz _ x w
    unfold stP
    iintro H Hk
    iapply (wp_store 𝒱₀ (c : Thread nD τ) none Set.univ (m := sM true) (r := Rect.unit (s := S256x8192) ![0, 0] S256x8192.size h) (Mk := Finset.univ) (Finset.subset_univ _)) $$ H
    iintro H
    rw [e]
    iapply Hk
    iexact H

/-- The accumulator read before it is written: the value is not used. -/
theorem load_a (δ : Bool) (c : Dev nD) {hl : aM.view.LoadsAt (aRect δ).toLoadRect} {f : Vec F S512x8192 .bf16} {Q : α → sProp 𝕄}
    {kk : ((aRect δ).toLoadRect.shape.Idx → Elt F .bf16) → Prog (TpuEff nD τ sig (Elt F) Λ₀ .tc) α} :
    aP c f ⊢ iprop((aP c f -∗ wp frame (wpE (defs₀ (F := F)) 𝒱₀ (c : Thread nD τ) none) Set.univ (kk (aM.view.readAt (Elt F) (aRect δ).toLoadRect f)) Q)
      -∗ wp frame (wpE (defs₀ (F := F)) 𝒱₀ (c : Thread nD τ) none) Set.univ (.op (.load aM (aRect δ).toLoadRect hl) kk) Q) :=
  wp_load 𝒱₀ (c : Thread nD τ) none Set.univ (m := aM) (Finset.subset_univ _)

theorem store_top (c : Dev nD) {p : Vec F S256x8192 .bf16}
    {hx : (aM.access (aRect true)).Stores Finset.univ} {hm : (Finset.univ : Finset S256x8192.Idx) = Finset.univ ∨ ∀ a, (aRect true).stride a = 1}
    {f : Vec F S512x8192 .bf16} {Q : α → sProp 𝕄} {kk : PUnit → Prog (TpuEff nD τ sig (Elt F) Λ₀ .tc) α} :
    aP c f ⊢ iprop((aP c (wT f p) -∗ wp frame (wpE (defs₀ (F := F)) 𝒱₀ (c : Thread nD τ) none) Set.univ (kk ⟨⟩) Q)
      -∗ wp frame (wpE (defs₀ (F := F)) 𝒱₀ (c : Thread nD τ) none) Set.univ (.op (.store aM (aRect true) p Finset.univ hx hm) kk) Q) :=
  wp_store 𝒱₀ (c : Thread nD τ) none Set.univ (m := aM) (r := aRect true) (Mk := Finset.univ) (Finset.subset_univ _)

theorem store_bot (c : Dev nD) {p : Vec F S256x8192 .bf16}
    {hx : (aM.access (aRect false)).Stores Finset.univ} {hm : (Finset.univ : Finset S256x8192.Idx) = Finset.univ ∨ ∀ a, (aRect false).stride a = 1}
    {f : Vec F S512x8192 .bf16} {Q : α → sProp 𝕄} {kk : PUnit → Prog (TpuEff nD τ sig (Elt F) Λ₀ .tc) α} :
    aP c f ⊢ iprop((aP c (wB f p) -∗ wp frame (wpE (defs₀ (F := F)) 𝒱₀ (c : Thread nD τ) none) Set.univ (kk ⟨⟩) Q)
      -∗ wp frame (wpE (defs₀ (F := F)) 𝒱₀ (c : Thread nD τ) none) Set.univ (.op (.store aM (aRect false) p Finset.univ hx hm) kk) Q) :=
  wp_store 𝒱₀ (c : Thread nD τ) none Set.univ (m := aM) (r := aRect false) (Mk := Finset.univ) (Finset.subset_univ _)

theorem load_top (c : Dev nD) {hl : aM.view.LoadsAt (aRect true).toLoadRect} {f : Vec F S512x8192 .bf16} {p q : Vec F S256x8192 .bf16} {Q : α → sProp 𝕄}
    {kk : Vec F S256x8192 .bf16 → Prog (TpuEff nD τ sig (Elt F) Λ₀ .tc) α} :
    aP c (wB (wT f p) q) ⊢ iprop((aP c (wB (wT f p) q) -∗ wp frame (wpE (defs₀ (F := F)) 𝒱₀ (c : Thread nD τ) none) Set.univ (kk p) Q)
      -∗ wp frame (wpE (defs₀ (F := F)) 𝒱₀ (c : Thread nD τ) none) Set.univ (.op (.load aM (aRect true).toLoadRect hl) kk) Q) := by
  have e := read_top f p q
  iintro H Hk
  iapply (load_a true c) $$ H
  iintro H
  rw [e]
  iapply Hk
  iexact H

theorem load_bot (c : Dev nD) {hl : aM.view.LoadsAt (aRect false).toLoadRect} {f : Vec F S512x8192 .bf16} {q : Vec F S256x8192 .bf16} {Q : α → sProp 𝕄}
    {kk : Vec F S256x8192 .bf16 → Prog (TpuEff nD τ sig (Elt F) Λ₀ .tc) α} :
    aP c (wB f q) ⊢ iprop((aP c (wB f q) -∗ wp frame (wpE (defs₀ (F := F)) 𝒱₀ (c : Thread nD τ) none) Set.univ (kk q) Q)
      -∗ wp frame (wpE (defs₀ (F := F)) 𝒱₀ (c : Thread nD τ) none) Set.univ (.op (.load aM (aRect false).toLoadRect hl) kk) Q) := by
  have e := read_bot f q
  iintro H Hk
  iapply (load_a false c) $$ H
  iintro H
  rw [e]
  iapply Hk
  iexact H

end Rules

end Cert.MatSilu

end
-- ==== Proof.Loop1.lean ====
/- The first loop: seven trips, each sending the running sum of both directions one place down while the next
   contribution is computed, then adding what came from one place up. -/
module

public import proofs.«01_k».proof.Proof.Mem
public import Idealize.ShloMosaic.Lib.Scf

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## What is owed, a payment at a time -/

theorem owb_recv_true (c : Dev nD) {r : ℕ} (k r' k' : ℕ) (h : r < 14) :
    owb c r k r' k' = owb c (r + 1) k r' k' + tallyAt (cell (dn true c) (recvK true)) r N := by
  unfold owb; rw [owd_recv true c k h, add_right_comm]
theorem owb_recv_false (c : Dev nD) (r k : ℕ) {r' : ℕ} (k' : ℕ) (h : r' < 14) :
    owb c r k r' k' = owb c r k (r' + 1) k' + tallyAt (cell (dn false c) (recvK false)) r' N := by
  unfold owb; rw [owd_recv false c k' h, add_assoc]
theorem owb_cred_true (c : Dev nD) (r : ℕ) {k : ℕ} (r' k' : ℕ) (h : k < 13) :
    owb c r k r' k' = owb c r (k + 1) r' k' + tallyAt (cell (up true c) (credK true)) k 1 := by
  unfold owb; rw [owd_cred true c r h, add_right_comm]
theorem owb_cred_false (c : Dev nD) (r k r' : ℕ) {k' : ℕ} (h : k' < 13) :
    owb c r k r' k' = owb c r k r' (k' + 1) + tallyAt (cell (up false c) (credK false)) k' 1 := by
  unfold owb; rw [owd_cred false c r' h, add_assoc]

theorem mw_recv (δ : Bool) (c : Dev nD) (j : ℕ) (hj : j < 14) {r k r' k' : ℕ}
    (hr : j < r) (hk : j ≤ k) (hr' : j < r') (hk' : j ≤ k') :
    (levAts L lv : sProp 𝕄) ⊢ MayWait (c : Thread nD τ) (csem (recvK δ)) j (owb c r k r' k') :=
  mayWait_owb c _ j (2 * j + 2) hj (lv_recv δ c j) (by omega) (by omega) (by omega) (by omega)
theorem mw_cred (δ : Bool) (c : Dev nD) (j : ℕ) (hj : j < 14) {r k r' k' : ℕ}
    (hr : j < r) (hk : j < k) (hr' : j < r') (hk' : j < k') :
    (levAts L lv : sProp 𝕄) ⊢ MayWait (c : Thread nD τ) (csem (credK δ)) j (owb c r k r' k') :=
  mayWait_owb c _ j (2 * j + 3) hj (lv_cred δ c j) (by omega) (by omega) (by omega) (by omega)
theorem mw_send (δ : Bool) (c : Dev nD) (r k r' k' : ℕ) :
    (levAts L lv : sProp 𝕄) ⊢ MayWait (c : Thread nD τ) (csem (sendK δ)) 0 (owb c r k r' k') :=
  mayWait_owb c _ 0 0 (by decide) ((lv_cell c (sendK δ) 0).trans (by cases δ <;> rfl)) (by omega) (by omega) (by omega) (by omega)
theorem mw_copy (c : Dev nD) (r k r' k' : ℕ) :
    (levAts L lv : sProp 𝕄) ⊢ MayWait (c : Thread nD τ) (csem 4) 0 (owb c r k r' k') :=
  mayWait_owb c _ 0 0 (by decide) ((lv_cell c 4 0).trans rfl) (by omega) (by omega) (by omega) (by omega)

/-! ## The sources of the transfers and copies -/

theorem st_view (δ : Bool) (c : Dev nD) (v : Vec F S256x8192 .bf16) : ∃ fs : Buf (Elt F) ((sM δ).view.loc (c : Thread nD τ)),
    (stP δ c v : sProp 𝕄) = ((sM δ).view.loc (c : Thread nD τ) ↦[(sM δ).view.set]{fullShare} fs) ∧ (sM δ).view.read (Elt F) fs = v := by
  cases δ
  · refine ⟨v, ?_, View.read_whole _ _⟩
    rw [show (sM false).view.set = Finset.univ from View.set_whole _]; unfold stP; rfl
  · refine ⟨v, ?_, View.read_whole _ _⟩
    rw [show (sM true).view.set = Finset.univ from View.set_whole _]; unfold stP; rfl
theorem co_src (δ : Bool) (c : Dev nD) (v : Vec F S256x8192 .bf16) : ∃ fs : Buf (Elt F) ((cM δ).view.loc (c : Thread nD τ)),
    (coP δ c v : sProp 𝕄) = ((cM δ).view.loc (c : Thread nD τ) ↦[(cM δ).view.set]{fullShare} fs) ∧ (cM δ).view.read (Elt F) fs = v := by
  cases δ
  · refine ⟨v, ?_, View.read_whole _ _⟩
    rw [show (cM false).view.set = Finset.univ from View.set_whole _]; unfold coP; rfl
  · refine ⟨v, ?_, View.read_whole _ _⟩
    rw [show (cM true).view.set = Finset.univ from View.set_whole _]; unfold coP; rfl

section Loop1

variable (X : Dev nD → Vec F S4096x512 .bf16) (Wt : Dev nD → Vec F S512x8192 .bf16) (K : Dev nD × Fin 8 → ℕ)

/-- Transfer `j < 7`, of the staging buffer. -/
theorem send_st (δ : Bool) (c n : Dev nD) (j : ℕ) (hj : j < 7) (hn : n = dn δ c)
    {hsc : (cM δ : Memref sig (Dev.tc n : Thread nD τ).2.kind .vmem S256x8192 .bf16).view.ref.isScScratch = false}
    {hsrc : (sM δ).view.WordExact} {hdst : (cM δ).view.WordExact}
    {hsem : DmaTarget.Typed .vmem (.dma (recvS δ)) (.remote (Dev.tc n : Thread nD τ) (cM δ) (.dma (sendS δ)) hsc)}
    {O₀ O : CellTallies nD τ sig ℕ} (hO : O₀ = O + tallyAt (cell (dn δ c) (recvK δ)) j N)
    {α : Type} {Q : α → sProp 𝕄} {kk : PUnit → Prog (TpuEff nD τ sig (Elt F) Λ₀ .tc) α} :
    iprop(ctx X Wt K ∗ stP δ c (sumV X Wt δ j c) ∗ Perm δ c j ∗ SD δ c j ∗ SW δ c j ∗ ow c O₀)
      ⊢ iprop(((SD δ c (j + 1) ∗ cred (tallyAt (cell c (sendK δ)) 0 N) ∗ SW δ c j ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sM δ) (.remote (Dev.tc n : Thread nD τ) (cM δ) (.dma (sendS δ)) hsc) (.dma (recvS δ)) hsrc hdst hsem) kk) Q) := by
  obtain ⟨fs, e, hr⟩ := st_view (F := F) δ c (sumV X Wt δ j c)
  rw [e]
  refine step_send X Wt K δ c n j (by omega) hn (hr.trans (srcV_lt X Wt δ hj c).symm) ?_ hO
  rw [← e]; unfold sendPay; rw [if_pos hj, srcV_lt X Wt δ hj c]

theorem wait_send_st (δ : Bool) (c : Dev nD) (j : ℕ) (hj : j < 7) {O : CellTallies nD τ sig ℕ}
    (hl : (levAts L lv : sProp 𝕄) ⊢ MayWait (c : Thread nD τ) (csem (sendK δ)) 0 O)
    {sp sp' : Space} {s s' : Shape} {e e' : EltTy} {src : Memref sig .tc sp' s' e'} {κ' : Kind} {dst : Memref sig κ' sp s e} (hd : dst.view.dmaCredit = N)
    {hsrc : src.view.WordExact} {hdst : dst.view.WordExact}
    {α : Type} {Q : α → sProp 𝕄} {kk : PUnit → Prog (TpuEff nD τ sig (Elt F) Λ₀ .tc) α} :
    iprop(ctx X Wt K ∗ SW δ c j ∗ cred (tallyAt (cell c (sendK δ)) 0 N) ∗ ow c O)
      ⊢ iprop(((SW δ c (j + 1) ∗ stP δ c (sumV X Wt δ j c) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS δ) src dst hsrc hdst) kk) Q) := by
  have h : sendPay X Wt δ j c = stP δ c (sumV X Wt δ j c) := by unfold sendPay; rw [if_pos hj, srcV_lt X Wt δ hj c]
  rw [← h]
  exact step_wait_send X Wt K δ c j (by omega) hl hd

/-- The credits waited for at the head of every trip but the first. -/
def PC (δ : Bool) (c : Dev nD) : ℕ → sProp 𝕄
  | 0 => iprop(CW δ c 0 ∗ Perm δ c 0)
  | s + 1 => CW δ c s

theorem head_credits (c : Dev nD) (s : ℕ) (hs : s < 7) {b : Prop} [Decidable b] (hb : b ↔ 1 ≤ s) {n n' : ℕ} (hn : n = 1) (hn' : n' = 1)
    {α : Type} {Q : α → sProp 𝕄} {B : Prog (TpuEff nD τ sig (Elt F) Λ₀ .tc) α} :
    iprop(ctx X Wt K ∗ PC true c s ∗ PC false c s ∗ ow c (owb c s s s s))
      ⊢ iprop(((CW true c s ∗ Perm true c s ∗ CW false c s ∗ Perm false c s ∗ ow c (owb c s s s s))
            -∗ wp frame (wpE (defs₀ (F := F)) 𝒱₀ (c : Thread nD τ) none) Set.univ B Q)
          -∗ wp frame (wpE (defs₀ (F := F)) 𝒱₀ (c : Thread nD τ) none) Set.univ
              (dite b (fun _ => .op (.semWait (credS true) n) fun _ => .op (.semWait (credS false) n') fun _ => B) (fun _ => B)) Q) := by
  rcases s with _ | s
  · rw [dif_neg (fun h => absurd (hb.mp h) (by decide))]
    unfold PC
    iintro ⟨-, ⟨H1, H2⟩, ⟨H3, H4⟩, HO⟩ Hk
    iapply Hk
    isplitl [H1]; · iexact H1
    isplitl [H2]; · iexact H2
    isplitl [H3]; · iexact H3
    isplitl [H4]; · iexact H4
    iexact HO
  · rw [dif_pos (hb.mpr (by omega))]
    have mw : ∀ δ, (levAts L lv : sProp 𝕄) ⊢ MayWait (c : Thread nD τ) (csem (credK δ)) s (owb c (s + 1) (s + 1) (s + 1) (s + 1)) :=
      fun δ => mw_cred δ c s (by omega) (by omega) (by omega) (by omega) (by omega)
    unfold PC
    iintro ⟨#Hctx, H1, H2, HO⟩ Hk
    iapply (step_wait_cred X Wt K true c s n (by omega) hn (mw true)) $$ [H1 HO]
    · isplitr; · iexact Hctx
      isplitl [H1]; · iexact H1
      iexact HO
    iintro ⟨H1, H3, HO⟩
    iapply (step_wait_cred X Wt K false c s n' (by omega) hn' (mw false)) $$ [H2 HO]
    · isplitr; · iexact Hctx
      isplitl [H2]; · iexact H2
      iexact HO
    iintro ⟨H2, H4, HO⟩
    iapply Hk
    isplitl [H1]; · iexact H1
    isplitl [H3]; · iexact H3
    isplitl [H2]; · iexact H2
    isplitl [H4]; · iexact H4
    iexact HO

/-- What a device holds of direction `δ` before trip `s` of the first loop, the running sum of step `s` in its staging
    buffer; of both, with what it owes, the operands and the accumulator. -/
def D1 (δ : Bool) (c : Dev nD) (s : ℕ) : sProp 𝕄 :=
  iprop(stP δ c (sumV X Wt δ s c) ∗ PC δ c s ∗ SD δ c s ∗ SW δ c s ∗ RW δ c s ∗ CS δ c s)
def I1 (c : Dev nD) (s : ℕ) : sProp 𝕄 :=
  iprop(D1 X Wt true c s ∗ D1 X Wt false c s ∗ ow c (owb c s s s s) ∗ xP c (X c) ∗ wP c (Wt c) ∗ ∃ f, aP c f)

theorem bind_dite {E : Type → Type} {α β : Type} {b : Prop} [Decidable b] (A : b → Prog E α) (B : ¬b → Prog E α) (k : α → Prog E β) :
    (dite b A B >>= k) = dite b (fun h => A h >>= k) (fun h => B h >>= k) := by split <;> rfl

abbrev trip1 (c : Dev nD) (v5 v19 v33 v63 v64 : BitVec 32) (v65 : BitVec 1) :
    Fin k0_t1_loop.trips → Unit → Prog (TpuEff nD τ sig (Elt F) Λ₀ .tc) Unit :=
  k0_t1_body (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 c v5 v19 v33 v63 v64 v65

theorem cond1_iff : ∀ t : Fin k0_t1_loop.trips,
    (Scalar.cmpi .ne (Scalar.extui (Scalar.cmpi .sge (Scf.iv (0#32) (1#32) t) (1#32)) : BitVec 32) (0#32) = 1#1) ↔ 1 ≤ t.val := by decide +kernel

set_option maxHeartbeats 4000000 in
theorem trip1_run (c : Dev nD) (v5 v19 v33 v63 v64 : BitVec 32) (v65 : BitVec 1) (t : Fin k0_t1_loop.trips) :
    iprop(ctx X Wt K ∗ I1 X Wt c t.val)
      ⊢ wp frame (wpE (defs₀ (F := F)) 𝒱₀ (c : Thread nD τ) none) Set.univ (trip1 c v5 v19 v33 v63 v64 v65 t ()) (fun _ => I1 X Wt c (t.val + 1)) := by
  have hs : t.val < 7 := t.isLt.trans_eq trips1
  have mw : ∀ δ, (levAts L lv : sProp 𝕄) ⊢ MayWait (c : Thread nD τ) (csem (recvK δ)) t.val (owb c (t.val + 1) t.val (t.val + 1) t.val) :=
    fun δ => mw_recv δ c t.val (by omega) (by omega) (by omega) (by omega) (by omega)
  unfold trip1 k0_t1_body
  simp only [k0_part1_eq_skeleton, k0_part2_eq_skeleton]
  unfold k0_part1_skel k0_part2_skel
  simp only [semSignalWord, semWaitWord, Prog.lift, Prog.bind_op, Prog.bind_ret, Prog.pure_eq_ret, wp_deviceId, bind_dite]
  unfold I1 D1
  iintro ⟨#Hctx, ⟨Hst, Hpc, Hsd, Hsw, Hrw, Hcs⟩, ⟨Hst', Hpc', Hsd', Hsw', Hrw', Hcs'⟩, HO, Hx, Hw, ⟨%f, Ha⟩⟩
  iapply (head_credits X Wt K c t.val hs (cond1_iff t) (by decide) (by decide)) $$ [Hpc Hpc' HO]
  · isplitr; · iexact Hctx
    isplitl [Hpc]; · iexact Hpc
    isplitl [Hpc']; · iexact Hpc'
    iexact HO
  iintro ⟨Hcw, Hp, Hcw', Hp', HO⟩
  iapply (send_st X Wt K true c _ t.val hs (dev3_eq c) (owb_recv_true c t.val t.val t.val (by omega))) $$ [Hst Hp Hsd Hsw HO]
  · isplitr; · iexact Hctx
    isplitl [Hst]; · iexact Hst
    isplitl [Hp]; · iexact Hp
    isplitl [Hsd]; · iexact Hsd
    isplitl [Hsw]; · iexact Hsw
    iexact HO
  iintro ⟨Hsd, Hc, Hsw, HO⟩
  iapply (send_st X Wt K false c _ t.val hs (dev4_eq c) (owb_recv_false c (t.val + 1) t.val t.val (by omega))) $$ [Hst' Hp' Hsd' Hsw' HO]
  · isplitr; · iexact Hctx
    isplitl [Hst']; · iexact Hst'
    isplitl [Hp']; · iexact Hp'
    isplitl [Hsd']; · iexact Hsd'
    isplitl [Hsw']; · iexact Hsw'
    iexact HO
  iintro ⟨Hsd', Hc', Hsw', HO⟩
  -- the next contributions
  iapply (load_x c true _ _ (off3_eq c t)) $$ Hx; iintro Hx
  iapply (load_w c) $$ Hw; iintro Hw
  iapply (load_a true c) $$ Ha; iintro Ha
  iapply (store_top c) $$ Ha; iintro Ha
  iapply (load_x c false _ _ (off4_eq c t)) $$ Hx; iintro Hx
  iapply (load_w c) $$ Hw; iintro Hw
  iapply (load_a false c) $$ Ha; iintro Ha
  iapply (store_bot c) $$ Ha; iintro Ha
  -- what came from one place up, then the sources back
  iapply (step_wait_recv X Wt K true c t.val (by omega) (mw true) (credit_c true)) $$ [Hrw HO]
  · isplitr; · iexact Hctx
    isplitl [Hrw]; · iexact Hrw
    iexact HO
  iintro ⟨Hrw, Hco, Hret, HO⟩
  iapply (step_wait_recv X Wt K false c t.val (by omega) (mw false) (credit_c false)) $$ [Hrw' HO]
  · isplitr; · iexact Hctx
    isplitl [Hrw']; · iexact Hrw'
    iexact HO
  iintro ⟨Hrw', Hco', Hret', HO⟩
  iapply (wait_send_st X Wt K true c t.val hs (mw_send true c _ _ _ _) (credit_s true)) $$ [Hsw Hc HO]
  · isplitr; · iexact Hctx
    isplitl [Hsw]; · iexact Hsw
    isplitl [Hc]; · iexact Hc
    iexact HO
  iintro ⟨Hsw, Hst, HO⟩
  iapply (wait_send_st X Wt K false c t.val hs (mw_send false c _ _ _ _) (credit_s false)) $$ [Hsw' Hc' HO]
  · isplitr; · iexact Hctx
    isplitl [Hsw']; · iexact Hsw'
    isplitl [Hc']; · iexact Hc'
    iexact HO
  iintro ⟨Hsw', Hst', HO⟩
  -- the running sums of the next step
  iapply (load_top c) $$ Ha; iintro Ha
  iapply (load_co true c) $$ Hco; iintro Hco
  iapply (load_st true c) $$ Hst; iintro Hst
  iapply (store_st true c) $$ Hst; iintro Hst
  iapply (load_bot c) $$ Ha; iintro Ha
  iapply (load_co false c) $$ Hco'; iintro Hco'
  iapply (load_st false c) $$ Hst'; iintro Hst'
  iapply (store_st false c) $$ Hst'; iintro Hst'
  -- the landing buffers free again
  iapply (step_signal_cred X Wt K true c _ t.val _ (by omega) (dev5_eq c) (by decide) (owb_cred_true c (t.val + 1) (t.val + 1) t.val (by omega))) $$ [Hcs Hret Hco HO]
  · isplitr; · iexact Hctx
    isplitl [Hcs]; · iexact Hcs
    isplitl [Hret]; · iexact Hret
    isplitl [Hco]; · iexact Hco
    iexact HO
  iintro ⟨Hcs, HO⟩
  iapply (step_signal_cred X Wt K false c _ t.val _ (by omega) (dev6_eq c) (by decide) (owb_cred_false c (t.val + 1) (t.val + 1) (t.val + 1) (by omega))) $$ [Hcs' Hret' Hco' HO]
  · isplitr; · iexact Hctx
    isplitl [Hcs']; · iexact Hcs'
    isplitl [Hret']; · iexact Hret'
    isplitl [Hco']; · iexact Hco'
    iexact HO
  iintro ⟨Hcs', HO⟩
  rw [wp_ret]; imodintro
  have e : k0_pay6 (k0_pay3 (k0_pay1 (rows true (fl (anc true (t.val + 2) c)) (X c)) (Wt c)) (recvV X Wt true t.val c)) = sumV X Wt true (t.val + 1) c := by
    unfold recvV; rw [srcV_lt X Wt true hs]; rfl
  have e' : k0_pay7 (k0_pay2 (rows false (fl (anc false (t.val + 2) c)) (X c)) (Wt c)) (recvV X Wt false t.val c) = sumV X Wt false (t.val + 1) c := by
    unfold recvV; rw [srcV_lt X Wt false hs]; rfl
  isplitl [Hst Hcw Hsd Hsw Hrw Hcs]
  · isplitl [Hst]
    · ihave H := (Entails.of_eq (congrArg (stP true c) e)) $$ Hst
      iexact H
    isplitl [Hcw]; · unfold PC; iexact Hcw
    isplitl [Hsd]; · iexact Hsd
    isplitl [Hsw]; · iexact Hsw
    isplitl [Hrw] <;> iassumption
  isplitl [Hst' Hcw' Hsd' Hsw' Hrw' Hcs']
  · isplitl [Hst']
    · ihave H := (Entails.of_eq (congrArg (stP false c) e')) $$ Hst'
      iexact H
    isplitl [Hcw']; · unfold PC; iexact Hcw'
    isplitl [Hsd']; · iexact Hsd'
    isplitl [Hsw']; · iexact Hsw'
    isplitl [Hrw'] <;> iassumption
  isplitl [HO]; · iexact HO
  isplitl [Hx]; · iexact Hx
  isplitl [Hw]; · iexact Hw
  iexists _; iexact Ha

end Loop1

end Cert.MatSilu

end
-- ==== Proof.Loop2.lean ====
/- The second loop: seven trips, each sending a finished half chunk of both directions on, out of the result itself,
   and copying the ones that arrive into it. -/
module

public import proofs.«01_k».proof.Proof.Loop1

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem bigSep_range {M : Type} [URA M] (n : ℕ) (Φ : ℕ → sProp M) :
    bigSep (Finset.range (n + 1)) Φ = iprop(Φ n ∗ bigSep (Finset.range n) Φ) := by
  rw [Finset.range_add_one, bigSep_insert Finset.notMem_range_self]; rfl

section Loop2

variable (X : Dev nD → Vec F S4096x512 .bf16) (Wt : Dev nD → Vec F S512x8192 .bf16) (K : Dev nD × Fin 8 → ℕ)

/-- The half chunks of direction `δ` of a device's result after `r` rounds of copies: the first `r` written, the others
    at the contents `f` before. -/
def OD (f : Vec F S4096x8192 .bf16) (δ : Bool) (c : Dev nD) (r : ℕ) : sProp 𝕄 :=
  iprop(bigSep (Finset.range r) (fun i => oP c (δ, fl (anc δ i c)) (outV X Wt)) ∗ bigSep (Finset.Ico r 8) (fun i => oP c (δ, fl (anc δ i c)) f))

/-- One round of copies: both started, both waited for. -/
theorem run_copies (c : Dev nD) (r : ℕ) (hr : r < 8) {O : CellTallies nD τ sig ℕ}
    (hl : (levAts L lv : sProp 𝕄) ⊢ MayWait (c : Thread nD τ) (csem 4) 0 O) (f : Vec F S4096x8192 .bf16)
    {sp₁ sp₂ : Space} {v₁ : Memref sig .tc sp₁ S256x8192 .bf16} {v₂ : Memref sig .tc sp₂ S256x8192 .bf16}
    {fs₁ : Buf (Elt F) (v₁.view.loc (c : Thread nD τ))} {fs₂ : Buf (Elt F) (v₂.view.loc (c : Thread nD τ))}
    (hread₁ : v₁.view.read (Elt F) fs₁ = fin X Wt true (anc true r c)) (hread₂ : v₂.view.read (Elt F) fs₂ = fin X Wt false (anc false r c))
    {S : Bool → sProp 𝕄}
    (e₁ : S true = (v₁.view.loc (c : Thread nD τ) ↦[v₁.view.set]{fullShare} fs₁))
    (e₂ : S false = (v₂.view.loc (c : Thread nD τ) ↦[v₂.view.set]{fullShare} fs₂))
    (hS : ∀ δ, S δ = (if r = 0 then stP δ c (fin X Wt δ c) else coP δ c (recvV X Wt δ (6 + r) c)))
    {o₁ o₂ : Fin 2 → Nat} {hb₁ : ∀ a, o₁ a + S256x8192.size a ≤ S4096x8192.size a} {hb₂ : ∀ a, o₂ a + S256x8192.size a ≤ S4096x8192.size a}
    (ho₁ : o₁ = roff true (fl (anc true r c))) (ho₂ : o₂ = roff false (fl (anc false r c)))
    {hsrc₁ : v₁.view.WordExact} {hdst₁ : (oM.slice (Rect.unit (s := S4096x8192) o₁ S256x8192.size hb₁) (fun _ => rfl) : Memref sig .tc .hbm S256x8192 .bf16).view.WordExact}
    {hsem₁ : DmaTarget.Typed (nD := nD) sp₁ (.dma copyS) (.here (p := .tc) (oM.slice (Rect.unit (s := S4096x8192) o₁ S256x8192.size hb₁) (fun _ => rfl) : Memref sig .tc .hbm S256x8192 .bf16))}
    {hsrc₂ : v₂.view.WordExact} {hdst₂ : (oM.slice (Rect.unit (s := S4096x8192) o₂ S256x8192.size hb₂) (fun _ => rfl) : Memref sig .tc .hbm S256x8192 .bf16).view.WordExact}
    {hsem₂ : DmaTarget.Typed (nD := nD) sp₂ (.dma copyS) (.here (p := .tc) (oM.slice (Rect.unit (s := S4096x8192) o₂ S256x8192.size hb₂) (fun _ => rfl) : Memref sig .tc .hbm S256x8192 .bf16))}
    {sp₃ sp₃' sp₄ sp₄' : Space} {s₁ s₁' s₂ s₂' : Shape} {t₁ t₁' t₂ t₂' : EltTy}
    {a₁ : Memref sig .tc sp₃' s₁' t₁'} {κ₁ : Kind} {b₁ : Memref sig κ₁ sp₃ s₁ t₁} (hd₁ : b₁.view.dmaCredit = N)
    {a₂ : Memref sig .tc sp₄' s₂' t₂'} {κ₂ : Kind} {b₂ : Memref sig κ₂ sp₄ s₂ t₂} (hd₂ : b₂.view.dmaCredit = N)
    {hs₁ : a₁.view.WordExact} {ht₁ : b₁.view.WordExact} {hs₂ : a₂.view.WordExact} {ht₂ : b₂.view.WordExact}
    {α : Type} {Q : α → sProp 𝕄} {kk : PUnit → Prog (TpuEff nD τ sig (Elt F) Λ₀ .tc) α} :
    iprop(ctx X Wt K ∗ S true ∗ S false ∗ OD X Wt f true c r ∗ OD X Wt f false c r ∗ CP c r ∗ ow c O)
      ⊢ iprop(((S true ∗ S false ∗ OD X Wt f true c (r + 1) ∗ OD X Wt f false c (r + 1) ∗ CP c (r + 1) ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma v₁ (.here (oM.slice (Rect.unit (s := S4096x8192) o₁ S256x8192.size hb₁) (fun _ => rfl))) (.dma copyS) hsrc₁ hdst₁ hsem₁) fun _ =>
               .op (.enqueueDma v₂ (.here (oM.slice (Rect.unit (s := S4096x8192) o₂ S256x8192.size hb₂) (fun _ => rfl))) (.dma copyS) hsrc₂ hdst₂ hsem₂) fun _ =>
               .op (.waitDma2 copyS a₁ b₁ hs₁ ht₁) fun _ => .op (.waitDma2 copyS a₂ b₂ hs₂ ht₂) kk) Q) := by
  have hp₁ := (Entails.of_eq e₁.symm).trans (Entails.of_eq (hS true))
  have hp₂ := (Entails.of_eq e₂.symm).trans (Entails.of_eq (hS false))
  have hc : ∀ δ, copyPay X Wt δ r c = iprop(oP c (δ, fl (anc δ r c)) (outV X Wt) ∗ S δ) := fun δ => by unfold copyPay; rw [hS δ]
  unfold OD CP
  rw [bigSep_Ico hr, bigSep_Ico hr, bigSep_Ico hr, bigSep_range, bigSep_range]
  iintro ⟨#Hctx, Hs1, Hs2, ⟨Hd1, ⟨Ho1, Hu1⟩⟩, ⟨Hd2, ⟨Ho2, Hu2⟩⟩, ⟨Hat, #Hr, ⟨⟨Ht1, Ht2⟩, Hts⟩⟩, HO⟩ Hk
  ihave Hs1 := (Entails.of_eq e₁) $$ Hs1
  ihave Hs2 := (Entails.of_eq e₂) $$ Hs2
  iapply (step_copy X Wt K true c r hr (oSl_of true _ o₁ hb₁ ho₁) hread₁ hp₁) $$ [Hs1 Ho1 Ht1]
  · isplitr; · iexact Hctx
    isplitl [Hs1]; · iexact Hs1
    isplitl [Ho1]; · iexact Ho1
    isplitl [Ht1]; · iexact Ht1
    iexact Hr
  iintro Hc1
  iapply (step_copy X Wt K false c r hr (oSl_of false _ o₂ hb₂ ho₂) hread₂ hp₂) $$ [Hs2 Ho2 Ht2]
  · isplitr; · iexact Hctx
    isplitl [Hs2]; · iexact Hs2
    isplitl [Ho2]; · iexact Ho2
    isplitl [Ht2]; · iexact Ht2
    iexact Hr
  iintro Hc2
  iapply (step_wait_copies X Wt K c r hr hl hd₁ hd₂) $$ [Hat Hc1 Hc2 HO]
  · isplitr; · iexact Hctx
    isplitl [Hat]; · iexact Hat
    isplitl [Hc1]; · iexact Hc1
    isplitl [Hc2]; · iexact Hc2
    iexact HO
  iintro ⟨Hat, #Hr', Hp1, Hp2, HO⟩
  ihave Hp1 := (Entails.of_eq (hc true)) $$ Hp1
  ihave Hp2 := (Entails.of_eq (hc false)) $$ Hp2
  icases Hp1 with ⟨Ho1, Hs1⟩
  icases Hp2 with ⟨Ho2, Hs2⟩
  iapply Hk
  isplitl [Hs1]; · iexact Hs1
  isplitl [Hs2]; · iexact Hs2
  isplitl [Hd1 Ho1 Hu1]
  · isplitl [Hd1 Ho1]
    · isplitl [Ho1]
      · iexact Ho1
      · iexact Hd1
    · iexact Hu1
  isplitl [Hd2 Ho2 Hu2]
  · isplitl [Hd2 Ho2]
    · isplitl [Ho2]
      · iexact Ho2
      · iexact Hd2
    · iexact Hu2
  isplitl [Hat Hts]
  · isplitl [Hat]; · iexact Hat
    isplitr; · iexact Hr'
    iexact Hts
  iexact HO

/-- Transfer `7 + t`, out of the result. -/
theorem send_out (δ : Bool) (c n : Dev nD) (t : ℕ) (ht : t < 7) (hn : n = dn δ c)
    {o : Fin 2 → Nat} {hb : ∀ a, o a + S256x8192.size a ≤ S4096x8192.size a} (ho : o = roff δ (fl (anc δ t c)))
    {hsc : (cM δ : Memref sig (Dev.tc n : Thread nD τ).2.kind .vmem S256x8192 .bf16).view.ref.isScScratch = false}
    {hsrc : (oM.slice (Rect.unit (s := S4096x8192) o S256x8192.size hb) (fun _ => rfl) : Memref sig .tc .hbm S256x8192 .bf16).view.WordExact} {hdst : (cM δ).view.WordExact}
    {hsem : DmaTarget.Typed .hbm (.dma (recvS δ)) (.remote (Dev.tc n : Thread nD τ) (cM δ) (.dma (sendS δ)) hsc)}
    {O₀ O : CellTallies nD τ sig ℕ} (hO : O₀ = O + tallyAt (cell (dn δ c) (recvK δ)) (7 + t) N)
    {α : Type} {Q : α → sProp 𝕄} {kk : PUnit → Prog (TpuEff nD τ sig (Elt F) Λ₀ .tc) α} :
    iprop(ctx X Wt K ∗ oP c (δ, fl (anc δ t c)) (outV X Wt) ∗ Perm δ c (7 + t) ∗ SD δ c (7 + t) ∗ SW δ c (7 + t) ∗ ow c O₀)
      ⊢ iprop(((SD δ c (7 + t + 1) ∗ cred (tallyAt (cell c (sendK δ)) 0 N) ∗ SW δ c (7 + t) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (oM.slice (Rect.unit (s := S4096x8192) o S256x8192.size hb) (fun _ => rfl)) (.remote (Dev.tc n : Thread nD τ) (cM δ) (.dma (sendS δ)) hsc) (.dma (recvS δ)) hsrc hdst hsem) kk) Q) := by
  subst ho
  have hr : (oSl δ (fl (anc δ t c))).view.read (Elt F) (outV X Wt) = srcV X Wt δ (7 + t) c := by
    rw [read_outV, fl_fl, srcV_ge]
  refine step_send X Wt K δ c n (7 + t) (by omega) hn (v := oSl δ (fl (anc δ t c))) (fs := outV X Wt) hr ?_ hO
  unfold sendPay; rw [if_neg (by omega), Nat.add_sub_cancel_left]; rfl

theorem wait_send_out (δ : Bool) (c : Dev nD) (t : ℕ) (ht : t < 7) {O : CellTallies nD τ sig ℕ}
    (hl : (levAts L lv : sProp 𝕄) ⊢ MayWait (c : Thread nD τ) (csem (sendK δ)) 0 O)
    {sp sp' : Space} {s s' : Shape} {e e' : EltTy} {src : Memref sig .tc sp' s' e'} {κ' : Kind} {dst : Memref sig κ' sp s e} (hd : dst.view.dmaCredit = N)
    {hsrc : src.view.WordExact} {hdst : dst.view.WordExact}
    {α : Type} {Q : α → sProp 𝕄} {kk : PUnit → Prog (TpuEff nD τ sig (Elt F) Λ₀ .tc) α} :
    iprop(ctx X Wt K ∗ SW δ c (7 + t) ∗ cred (tallyAt (cell c (sendK δ)) 0 N) ∗ ow c O)
      ⊢ iprop(((SW δ c (7 + t + 1) ∗ oP c (δ, fl (anc δ t c)) (outV X Wt) ∗ ow c O) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS δ) src dst hsrc hdst) kk) Q) := by
  have h : sendPay X Wt δ (7 + t) c = oP c (δ, fl (anc δ t c)) (outV X Wt) := by
    unfold sendPay; rw [if_neg (by omega), Nat.add_sub_cancel_left]
  rw [← h]
  exact step_wait_send X Wt K δ c (7 + t) (by omega) hl hd

/-- The landing buffer, once no credit hands it on any more. -/
def Last (δ : Bool) (c : Dev nD) (t : ℕ) : sProp 𝕄 := if t < 7 then iprop(emp) else iprop(∃ v, coP δ c v)

/-- What a device holds of direction `δ` before trip `t` of the second loop; of both, with what it owes. -/
def D2 (f : Vec F S4096x8192 .bf16) (δ : Bool) (c : Dev nD) (t : ℕ) : sProp 𝕄 :=
  iprop(CW δ c (6 + t) ∗ SD δ c (7 + t) ∗ SW δ c (7 + t) ∗ RW δ c (7 + t) ∗ CS δ c (min (7 + t) 13) ∗ OD X Wt f δ c (t + 1) ∗ Last δ c t)
def I2 (f : Vec F S4096x8192 .bf16) (c : Dev nD) (t : ℕ) : sProp 𝕄 :=
  iprop(D2 X Wt f true c t ∗ D2 X Wt f false c t ∗ CP c (t + 1) ∗ ow c (owb c (7 + t) (min (7 + t) 13) (7 + t) (min (7 + t) 13)))

abbrev trip2 (c : Dev nD) (v5 v19 v33 : BitVec 32) :
    Fin k0_t2_loop.trips → Unit → Prog (TpuEff nD τ sig (Elt F) Λ₀ .tc) Unit :=
  k0_t2_body (Memref.whole cc0_stg0_0) (Memref.isWhole_whole _) (Memref.whole cc0_stg1_0) (Memref.isWhole_whole _)
    (Memref.whole main_v1) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8 cc0_scratch9 cc0_scratch10 cc0_scratch11 c v5 v19 v33

/-- The tail of a trip: the credits returned, but in the last trip. -/
theorem tail_credits (c : Dev nD) (t : ℕ) (ht : t < 7) {b : Prop} [Decidable b] (hb : b ↔ t < 6) {n n' : b → Dev nD} {m m' : ℕ}
    (hn : ∀ h, n h = up true c) (hn' : ∀ h, n' h = up false c) (hm : m = 1) (hm' : m' = 1) {v v' : Vec F S256x8192 .bf16} {Q : Unit → sProp 𝕄} :
    iprop(ctx X Wt K ∗ CS true c (min (7 + t) 13) ∗ CS false c (min (7 + t) 13) ∗ Ret true c (7 + t) ∗ Ret false c (7 + t) ∗ coP true c v ∗ coP false c v'
        ∗ ow c (owb c (7 + t + 1) (min (7 + t) 13) (7 + t + 1) (min (7 + t) 13)))
      ⊢ iprop(((CS true c (min (7 + (t + 1)) 13) ∗ CS false c (min (7 + (t + 1)) 13) ∗ Last true c (t + 1) ∗ Last false c (t + 1)
              ∗ ow c (owb c (7 + (t + 1)) (min (7 + (t + 1)) 13) (7 + (t + 1)) (min (7 + (t + 1)) 13))) -∗ Q ⟨⟩)
          -∗ wp frame (wpE (defs₀ (F := F)) 𝒱₀ (c : Thread nD τ) none) Set.univ
              (dite b (fun h => .op (.semSignal (n h : Thread nD τ) (credS true) m) fun _ => .op (.semSignal (n' h : Thread nD τ) (credS false) m') fun _ => .ret ⟨⟩)
                (fun _ => .ret ⟨⟩)) Q) := by
  by_cases h6 : t < 6
  · rw [dif_pos (hb.mpr h6)]
    have e1 : min (7 + t) 13 = 7 + t := by omega
    have e2 : min (7 + (t + 1)) 13 = 7 + t + 1 := by omega
    rw [e1, e2]
    have h7 : ∀ δ, (Last δ c (t + 1) : sProp 𝕄) = iprop(emp) := fun δ => by unfold Last; rw [if_pos (by omega)]
    rw [h7, h7]
    iintro ⟨#Hctx, H1, H2, Hr1, Hr2, Hc1, Hc2, HO⟩ Hk
    iapply (step_signal_cred X Wt K true c _ (7 + t) _ (by omega) (hn _) hm (owb_cred_true c (7 + t + 1) (7 + t + 1) (7 + t) (by omega))) $$ [H1 Hr1 Hc1 HO]
    · isplitr; · iexact Hctx
      isplitl [H1]; · iexact H1
      isplitl [Hr1]; · iexact Hr1
      isplitl [Hc1]; · iexact Hc1
      iexact HO
    iintro ⟨H1, HO⟩
    iapply (step_signal_cred X Wt K false c _ (7 + t) _ (by omega) (hn' _) hm' (owb_cred_false c (7 + t + 1) (7 + t + 1) (7 + t + 1) (by omega))) $$ [H2 Hr2 Hc2 HO]
    · isplitr; · iexact Hctx
      isplitl [H2]; · iexact H2
      isplitl [Hr2]; · iexact Hr2
      isplitl [Hc2]; · iexact Hc2
      iexact HO
    iintro ⟨H2, HO⟩
    rw [wp_ret]; imodintro
    iapply Hk
    isplitl [H1]; · iexact H1
    isplitl [H2]; · iexact H2
    isplitr; · itrivial
    isplitr; · itrivial
    iexact HO
  · rw [dif_neg (fun h => h6 (hb.mp h))]
    have e1 : min (7 + t) 13 = 13 := by omega
    have e2 : min (7 + (t + 1)) 13 = 13 := by omega
    rw [e1, e2]
    have h7 : ∀ δ, (Last δ c (t + 1) : sProp 𝕄) = iprop(∃ v, coP δ c v) := fun δ => by unfold Last; rw [if_neg (by omega)]
    rw [h7, h7]
    iintro ⟨#Hctx, H1, H2, Hr1, Hr2, Hc1, Hc2, HO⟩ Hk
    rw [wp_ret]; imodintro
    iapply Hk
    isplitl [H1]; · iexact H1
    isplitl [H2]; · iexact H2
    isplitl [Hc1]; · iexists _; iexact Hc1
    isplitl [Hc2]; · iexists _; iexact Hc2
    iexact HO

set_option maxHeartbeats 4000000 in
theorem trip2_run (f : Vec F S4096x8192 .bf16) (c : Dev nD) (v5 v19 v33 : BitVec 32) (t : Fin k0_t2_loop.trips) :
    iprop(ctx X Wt K ∗ I2 X Wt f c t.val)
      ⊢ wp frame (wpE (defs₀ (F := F)) 𝒱₀ (c : Thread nD τ) none) Set.univ (trip2 c v5 v19 v33 t ()) (fun _ => I2 X Wt f c (t.val + 1)) := by
  have ht : t.val < 7 := t.isLt.trans_eq trips2
  have mwc : ∀ δ, (levAts L lv : sProp 𝕄) ⊢ MayWait (c : Thread nD τ) (csem (credK δ)) (6 + t.val) (owb c (7 + t.val) (min (7 + t.val) 13) (7 + t.val) (min (7 + t.val) 13)) :=
    fun δ => mw_cred δ c (6 + t.val) (by omega) (by omega) (by omega) (by omega) (by omega)
  have mwr : ∀ δ, (levAts L lv : sProp 𝕄) ⊢ MayWait (c : Thread nD τ) (csem (recvK δ)) (7 + t.val) (owb c (7 + t.val + 1) (min (7 + t.val) 13) (7 + t.val + 1) (min (7 + t.val) 13)) :=
    fun δ => mw_recv δ c (7 + t.val) (by omega) (by omega) (by omega) (by omega) (by omega)
  obtain ⟨fs₁, e₁, r₁⟩ := co_src (F := F) true c (recvV X Wt true (7 + t.val) c)
  obtain ⟨fs₂, e₂, r₂⟩ := co_src (F := F) false c (recvV X Wt false (7 + t.val) c)
  have hS : ∀ δ, (coP δ c (recvV X Wt δ (7 + t.val) c) : sProp 𝕄)
      = (if t.val + 1 = 0 then stP δ c (fin X Wt δ c) else coP δ c (recvV X Wt δ (6 + (t.val + 1)) c)) := fun δ => by
    rw [if_neg (Nat.succ_ne_zero _), show 6 + (t.val + 1) = 7 + t.val by omega]
  unfold trip2 k0_t2_body
  simp only [k0_part3_eq_skeleton, k0_part4_eq_skeleton]
  unfold k0_part3_skel k0_part4_skel
  simp only [semSignalWord, semWaitWord, Prog.lift, Prog.bind_op, Prog.bind_ret, Prog.pure_eq_ret, wp_deviceId, bind_dite]
  unfold I2 D2
  have hod : ∀ δ, OD X Wt f δ c (t.val + 1) = iprop((oP c (δ, fl (anc δ t.val c)) (outV X Wt) ∗ bigSep (Finset.range t.val) (fun i => oP c (δ, fl (anc δ i c)) (outV X Wt)))
      ∗ bigSep (Finset.Ico (t.val + 1) 8) (fun i => oP c (δ, fl (anc δ i c)) f)) := fun δ => by unfold OD; rw [bigSep_range]
  iintro ⟨#Hctx, ⟨Hcw, Hsd, Hsw, Hrw, Hcs, Hod, -⟩, ⟨Hcw', Hsd', Hsw', Hrw', Hcs', Hod', -⟩, Hcp, HO⟩
  ihave Hod := (Entails.of_eq (hod true)) $$ Hod
  ihave Hod' := (Entails.of_eq (hod false)) $$ Hod'
  icases Hod with ⟨⟨Ho, Hdn⟩, Htd⟩
  icases Hod' with ⟨⟨Ho', Hdn'⟩, Htd'⟩
  iapply (step_wait_cred X Wt K true c (6 + t.val) _ (by omega) (by decide) (mwc true)) $$ [Hcw HO]
  · isplitr; · iexact Hctx
    isplitl [Hcw]; · iexact Hcw
    iexact HO
  iintro ⟨Hcw, Hp, HO⟩
  iapply (step_wait_cred X Wt K false c (6 + t.val) _ (by omega) (by decide) (mwc false)) $$ [Hcw' HO]
  · isplitr; · iexact Hctx
    isplitl [Hcw']; · iexact Hcw'
    iexact HO
  iintro ⟨Hcw', Hp', HO⟩
  ihave Hp := (Entails.of_eq (congrArg (Perm true c) (show 6 + t.val + 1 = 7 + t.val by omega))) $$ Hp
  ihave Hp' := (Entails.of_eq (congrArg (Perm false c) (show 6 + t.val + 1 = 7 + t.val by omega))) $$ Hp'
  iapply (send_out X Wt K true c _ t.val ht (dev7_eq c) (off7_eq c t) (owb_recv_true c (min (7 + t.val) 13) (7 + t.val) (min (7 + t.val) 13) (by omega))) $$ [Ho Hp Hsd Hsw HO]
  · isplitr; · iexact Hctx
    isplitl [Ho]; · iexact Ho
    isplitl [Hp]; · iexact Hp
    isplitl [Hsd]; · iexact Hsd
    isplitl [Hsw]; · iexact Hsw
    iexact HO
  iintro ⟨Hsd, Hc, Hsw, HO⟩
  iapply (send_out X Wt K false c _ t.val ht (dev8_eq c) (off8_eq c t) (owb_recv_false c (7 + t.val + 1) (min (7 + t.val) 13) (min (7 + t.val) 13) (by omega))) $$ [Ho' Hp' Hsd' Hsw' HO]
  · isplitr; · iexact Hctx
    isplitl [Ho']; · iexact Ho'
    isplitl [Hp']; · iexact Hp'
    isplitl [Hsd']; · iexact Hsd'
    isplitl [Hsw']; · iexact Hsw'
    iexact HO
  iintro ⟨Hsd', Hc', Hsw', HO⟩
  iapply (wait_send_out X Wt K true c t.val ht (mw_send true c _ _ _ _) (by rfl)) $$ [Hsw Hc HO]
  · isplitr; · iexact Hctx
    isplitl [Hsw]; · iexact Hsw
    isplitl [Hc]; · iexact Hc
    iexact HO
  iintro ⟨Hsw, Ho, HO⟩
  iapply (step_wait_recv X Wt K true c (7 + t.val) (by omega) (mwr true) (credit_c true)) $$ [Hrw HO]
  · isplitr; · iexact Hctx
    isplitl [Hrw]; · iexact Hrw
    iexact HO
  iintro ⟨Hrw, Hco, Hret, HO⟩
  iapply (wait_send_out X Wt K false c t.val ht (mw_send false c _ _ _ _) (by rfl)) $$ [Hsw' Hc' HO]
  · isplitr; · iexact Hctx
    isplitl [Hsw']; · iexact Hsw'
    isplitl [Hc']; · iexact Hc'
    iexact HO
  iintro ⟨Hsw', Ho', HO⟩
  iapply (step_wait_recv X Wt K false c (7 + t.val) (by omega) (mwr false) (credit_c false)) $$ [Hrw' HO]
  · isplitr; · iexact Hctx
    isplitl [Hrw']; · iexact Hrw'
    iexact HO
  iintro ⟨Hrw', Hco', Hret', HO⟩
  ihave Hod := (Entails.of_eq (hod true).symm) $$ [Ho Hdn Htd]
  · isplitl [Ho Hdn]
    · isplitl [Ho] <;> iassumption
    · iexact Htd
  ihave Hod' := (Entails.of_eq (hod false).symm) $$ [Ho' Hdn' Htd']
  · isplitl [Ho' Hdn']
    · isplitl [Ho'] <;> iassumption
    · iexact Htd'
  iapply (run_copies X Wt K c (t.val + 1) (by omega) (mw_copy c _ _ _ _) f (v₁ := cM true) (v₂ := cM false) (fs₁ := fs₁) (fs₂ := fs₂)
      (r₁.trans (recvV_ge X Wt true t.val c)) (r₂.trans (recvV_ge X Wt false t.val c))
      (S := fun δ => coP δ c (recvV X Wt δ (7 + t.val) c)) e₁ e₂ hS (off9_eq c t) (off10_eq c t) (by rfl) (by rfl)) $$ [Hco Hco' Hod Hod' Hcp HO]
  · isplitr; · iexact Hctx
    isplitl [Hco]; · iexact Hco
    isplitl [Hco']; · iexact Hco'
    isplitl [Hod]; · iexact Hod
    isplitl [Hod']; · iexact Hod'
    isplitl [Hcp]; · iexact Hcp
    iexact HO
  iintro ⟨Hco, Hco', Hod, Hod', Hcp, HO⟩
  iapply (tail_credits X Wt K c t.val ht (cond2_iff t) (fun _ => Fin.ext (dev9_val c)) (fun _ => Fin.ext (dev10_val c)) (by decide) (by decide)) $$ [Hcs Hcs' Hret Hret' Hco Hco' HO]
  · isplitr; · iexact Hctx
    isplitl [Hcs]; · iexact Hcs
    isplitl [Hcs']; · iexact Hcs'
    isplitl [Hret]; · iexact Hret
    isplitl [Hret']; · iexact Hret'
    isplitl [Hco]; · iexact Hco
    isplitl [Hco']; · iexact Hco'
    iexact HO
  iintro ⟨Hcs, Hcs', Hl, Hl', HO⟩
  isplitl [Hcw Hsd Hsw Hrw Hcs Hod Hl]
  · isplitl [Hcw]; · iexact Hcw
    isplitl [Hsd]; · iexact Hsd
    isplitl [Hsw]; · iexact Hsw
    isplitl [Hrw]; · iexact Hrw
    isplitl [Hcs]; · iexact Hcs
    isplitl [Hod] <;> iassumption
  isplitl [Hcw' Hsd' Hsw' Hrw' Hcs' Hod' Hl']
  · isplitl [Hcw']; · iexact Hcw'
    isplitl [Hsd']; · iexact Hsd'
    isplitl [Hsw']; · iexact Hsw'
    isplitl [Hrw']; · iexact Hrw'
    isplitl [Hcs']; · iexact Hcs'
    isplitl [Hod'] <;> iassumption
  isplitl [Hcp]; · iexact Hcp
  iexact HO

end Loop2

end Cert.MatSilu

end
-- ==== Proof.Body.lean ====
/- The whole kernel on one device: the barrier, the first contributions, the two loops, and the cells closed. -/
module

public import proofs.«01_k».proof.Proof.Loop2

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The result, whole and by half chunks -/

theorem bigSep_img {M J : Type} [URA M] [DecidableEq J] (g : ℕ → J) (s : Finset ℕ) (hg : Set.InjOn g s) (Φ : J → sProp M) :
    bigSep (s.image g) Φ = bigSep s (fun i => Φ (g i)) := by
  induction s using Finset.induction_on with
  | empty => rw [Finset.image_empty, bigSep_empty, bigSep_empty]
  | insert a s ha ih =>
    have h : g a ∉ s.image g := fun hm => by
      obtain ⟨b, hb, e⟩ := Finset.mem_image.mp hm
      rw [hg (Finset.mem_coe.mpr (Finset.mem_insert_of_mem hb)) (Finset.mem_coe.mpr (Finset.mem_insert_self a s)) e] at hb
      exact ha hb
    rw [Finset.image_insert, bigSep_insert h, bigSep_insert ha, ih (hg.mono (Finset.coe_subset.mpr (Finset.subset_insert a s)))]

/-- The half chunks of direction `δ` in the order a device fills them. -/
theorem slots_eq (δ : Bool) (c : Dev nD) (V : Vec F S4096x8192 .bf16) :
    (bigSep (Finset.range 8) (fun i => oP c (δ, fl (anc δ i c)) V) : sProp 𝕄) = bigSep Finset.univ (fun r : Dev nD => oP c (δ, r) V) := by
  have hi : (Finset.range 8).image (fun i => fl (anc δ i c)) = Finset.univ := by
    ext d
    rw [Finset.mem_image]
    obtain ⟨t, ht⟩ := anc_surj δ c (fl d)
    exact ⟨fun _ => Finset.mem_univ _, fun _ => ⟨t.val, Finset.mem_range.mpr t.isLt, by rw [ht, fl_fl]⟩⟩
  rw [← hi]
  refine (bigSep_img (fun i => fl (anc δ i c)) _ ?_ (fun r => oP c (δ, r) V)).symm
  intro a ha b hb e
  have e' : anc δ a c = anc δ b c := by
    have h := congrArg fl (show fl (anc δ a c) = fl (anc δ b c) from e)
    rw [fl_fl, fl_fl] at h; exact h
  have h := anc_inj δ c ⟨a, Finset.mem_range.mp (Finset.mem_coe.mp ha)⟩ ⟨b, Finset.mem_range.mp (Finset.mem_coe.mp hb)⟩ e'
  exact congrArg Fin.val h

def Out (c : Dev nD) (V : Vec F S4096x8192 .bf16) : sProp 𝕄 := ((c : Thread nD τ).loc main_v1) ↦{fullShare} V

theorem out_split (c : Dev nD) (V : Vec F S4096x8192 .bf16) :
    (Out c V : sProp 𝕄) = iprop(bigSep (Finset.range 8) (fun i => oP c (true, fl (anc true i c)) V) ∗ bigSep (Finset.range 8) (fun i => oP c (false, fl (anc false i c)) V)) := by
  have h := pointsTo_biUnion (ℓ := (c : Thread nD τ).loc main_v1) (q := fullShare) (f := V) (Ix := ℕ) (Name := ℕ) (U := UU) (Lvl := ℕ)
    Finset.univ oSet (fun b _ b' _ hb => oSet_disjoint b b' hb)
  rw [oSet_cover] at h
  rw [slots_eq, slots_eq]
  unfold Out oP
  refine h.trans ?_
  rw [bigSep_univ_prod, bigSep_univ_eq_bigSepL [true, false] (by decide) (by decide), bigSepL_cons_cons, bigSepL_singleton]
  rfl

section Body

variable (X : Dev nD → Vec F S4096x512 .bf16) (Wt : Dev nD → Vec F S512x8192 .bf16) (K : Dev nD × Fin 8 → ℕ)

theorem out_start (f : Vec F S4096x8192 .bf16) (c : Dev nD) : (Out c f : sProp 𝕄) ⊢ iprop(OD X Wt f true c 0 ∗ OD X Wt f false c 0) := by
  rw [out_split]; unfold OD
  rw [Finset.range_zero, bigSep_empty, bigSep_empty, ← Finset.range_eq_Ico]
  iintro ⟨H1, H2⟩
  isplitl [H1]
  · isplitr; · iempintro
    iexact H1
  isplitr; · iempintro
  iexact H2
theorem out_end (f : Vec F S4096x8192 .bf16) (c : Dev nD) : iprop(OD X Wt f true c 8 ∗ OD X Wt f false c 8) ⊢ (Out c (outV X Wt) : sProp 𝕄) := by
  rw [out_split]; unfold OD
  iintro ⟨⟨H1, -⟩, ⟨H2, -⟩⟩
  isplitl [H1] <;> iassumption

/-! ## The barrier -/

/-- A unit to the barrier of the device one place up, the own landing buffer with it. -/
theorem step_signal_bar (δ : Bool) (c n : Dev nD) (m : ℕ) (hn : n = up δ c) (hm : m = 1)
    {O₀ O : CellTallies nD τ sig ℕ} (hO : O₀ = O + tallyAt (cell (up δ c) 7) 0 1) {v : Vec F S256x8192 .bf16}
    {α : Type} {Q : α → sProp 𝕄} {kk : PUnit → Prog (TpuEff nD τ sig (Elt F) Λ₀ .tc) α} :
    iprop(ctx X Wt K ∗ dutyTok ER (cell (up δ c) 7) 0 δ ∗ coP δ c v ∗ ow c O₀)
      ⊢ iprop((ow c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS m) kk) Q) := by
  subst hn hm
  have hd : δ ∈ (sched X Wt).duties (cell (up δ c) 7) 0 := by rw [duties_bar]; exact Finset.mem_univ _
  have ha := amount_bar X Wt (up δ c) 0 δ
  have hp : coP δ c v ⊢ (sched X Wt).payload (cell (up δ c) 7) 0 δ := by
    rw [payload_bar]; unfold barPay; rw [dn_up]
    iintro H
    iexists v; iexact H
  unfold ow
  iintro ⟨#Hctx, Ht, Hco, ⟨%W, HO⟩⟩ Hk
  ihave #Hi := (ctx_inv X Wt K (up δ c) 7) $$ Hctx
  ihave #Hr := (ctx_reached X Wt K (up δ c) 7) $$ Hctx
  ihave Hp := hp $$ Hco
  iapply (Rounds.wp_signal 𝒱₀ ER (sched X Wt) (c : Thread nD τ) none (dst := (up δ c : Thread nD τ)) (κ := K (up δ c, 7))
      (d := δ) hd ha 0 O hO) $$ [HO Ht Hp]
  · isplitr; · iexact Hi
    isplitl [HO]; · iexact HO
    isplitl [Ht]; · iexact Ht
    isplitl [Hp]; · iexact Hp
    iexact Hr
  iintro HO
  iapply Hk
  iexists _; iexact HO

/-- The wait for both units: the landing buffers of both devices one place down, free for the first transfers. -/
theorem step_wait_bar (c : Dev nD) (m : ℕ) (hm : m = 2)
    {α : Type} {Q : α → sProp 𝕄} {kk : PUnit → Prog (TpuEff nD τ sig (Elt F) Λ₀ .tc) α} :
    iprop(ctx X Wt K ∗ atPos ER (cell c 7) 0 ∅ 0 ∗ cred (tallyAt (cell c 7) 0 2) ∗ ow c (owb c 0 0 0 0))
      ⊢ iprop(((atPos ER (cell c 7) 1 ∅ 0 ∗ Perm true c 0 ∗ Perm false c 0 ∗ ow c (owb c 0 0 0 0))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS m) kk) Q) := by
  subst hm
  have he := expect_bar X Wt c
  have hl : (levAts L lv : sProp 𝕄) ⊢ MayWait (c : Thread nD τ) (csem 7) 0 (owb c 0 0 0 0) :=
    mayWait_owb c _ 0 1 (Nat.zero_lt_succ 13) ((lv_cell c 7 0).trans rfl) (by omega) (by omega) (by omega) (by omega)
  unfold ow Perm
  iintro ⟨#Hctx, Hat, Hc, ⟨%W, HO⟩⟩ Hk
  ihave #Hi := (ctx_inv X Wt K c 7) $$ Hctx
  ihave #Hl := (ctx_lev X Wt K) $$ Hctx
  ihave #Hm := hl $$ Hl
  iapply (Rounds.wp_wait_rest_token 𝒱₀ ER (sched X Wt) (c : Thread nD τ) none (κ := K (c, 7))
      (wpE_semWait_eq 𝒱₀ (c : Thread nD τ) none Set.univ) (Set.mem_univ _) 0 (O := owb c 0 0 0 0) (W := W) (R := 0) (m := 0) (T := ∅)
      ((Nat.zero_add 2).trans he.symm)) $$ [Hc HO Hat]
  · isplitr; · iexact Hi
    isplitl [Hc]; · iexact Hc
    isplitl [HO]; · iexact HO
    isplitr; · iexact Hm
    iexact Hat
  iintro ⟨HO, Hat, -, Hpay⟩
  ihave Hp := (Entails.of_eq (rest_bar X Wt c)) $$ Hpay
  unfold barPay
  icases Hp with ⟨H1, H2⟩
  iapply Hk
  isplitl [Hat]; · iexact Hat
  isplitl [H1]
  · isplitl [H1]; · iexact H1
    isplitr; · iapply (ctx_reached X Wt K (dn true c) (recvK true)); iexact Hctx
    iapply (ctx_reached X Wt K c (credK true)); iexact Hctx
  isplitl [H2]
  · isplitl [H2]; · iexact H2
    isplitr; · iapply (ctx_reached X Wt K (dn false c) (recvK false)); iexact Hctx
    iapply (ctx_reached X Wt K c (credK false)); iexact Hctx
  iexists _; iexact HO

/-! ## The loops -/

theorem loop1_run (c : Dev nD) (v5 v19 v33 v63 v64 : BitVec 32) (v65 : BitVec 1)
    {α : Type} {Q : α → sProp 𝕄} {kk : Unit → Prog (TpuEff nD τ sig (Elt F) Λ₀ .tc) α} :
    iprop(ctx X Wt K ∗ I1 X Wt c 0)
      ⊢ iprop((I1 X Wt c 7 -∗ wp frame (wpE (defs₀ (F := F)) 𝒱₀ (c : Thread nD τ) none) Set.univ (kk ()) Q)
          -∗ wp frame (wpE (defs₀ (F := F)) 𝒱₀ (c : Thread nD τ) none) Set.univ
              (Scf.Loop.for k0_t1_loop k0_t1_ok () (trip1 c v5 v19 v33 v63 v64 v65) >>= kk) Q) := by
  have hb : ∀ (k : Fin k0_t1_loop.trips) (acc : Unit), iprop(ctx X Wt K ∗ I1 X Wt c k.val)
      ⊢ wp frame (wpE (defs₀ (F := F)) 𝒱₀ (c : Thread nD τ) none) Set.univ (trip1 c v5 v19 v33 v63 v64 v65 k acc)
          (fun _ => iprop(ctx X Wt K ∗ I1 X Wt c (k.val + 1))) := fun k acc => by
    iintro ⟨#Hctx, HI⟩
    iapply (wp_wand_r frame (wpE (defs₀ (F := F)) 𝒱₀ (c : Thread nD τ) none) Set.univ)
    isplitl [HI]
    · iapply (trip1_run X Wt K c v5 v19 v33 v63 v64 v65 k)
      isplitr; · iexact Hctx
      iexact HI
    iintro %_ HI
    isplitr; · iexact Hctx
    iexact HI
  have h := Scf.wp_for_bind frame (wpE (defs₀ (F := F)) 𝒱₀ (c : Thread nD τ) none) Set.univ k0_t1_loop.lb k0_t1_loop.ub k0_t1_loop.st k0_t1_ok ()
    (trip1 c v5 v19 v33 v63 v64 v65) (fun n _ => iprop(ctx X Wt K ∗ I1 X Wt c n)) hb (kk := kk) (Q := Q)
  refine h.trans ?_
  rw [show Scf.trips k0_t1_loop.lb k0_t1_loop.ub k0_t1_loop.st = 7 from trips1]
  iintro H Hk
  iapply H
  iintro %_ ⟨-, HI⟩
  iapply Hk
  iexact HI

theorem loop2_run (f : Vec F S4096x8192 .bf16) (c : Dev nD) (v5 v19 v33 : BitVec 32)
    {α : Type} {Q : α → sProp 𝕄} {kk : Unit → Prog (TpuEff nD τ sig (Elt F) Λ₀ .tc) α} :
    iprop(ctx X Wt K ∗ I2 X Wt f c 0)
      ⊢ iprop((I2 X Wt f c 7 -∗ wp frame (wpE (defs₀ (F := F)) 𝒱₀ (c : Thread nD τ) none) Set.univ (kk ()) Q)
          -∗ wp frame (wpE (defs₀ (F := F)) 𝒱₀ (c : Thread nD τ) none) Set.univ
              (Scf.Loop.for k0_t2_loop k0_t2_ok () (trip2 c v5 v19 v33) >>= kk) Q) := by
  have hb : ∀ (k : Fin k0_t2_loop.trips) (acc : Unit), iprop(ctx X Wt K ∗ I2 X Wt f c k.val)
      ⊢ wp frame (wpE (defs₀ (F := F)) 𝒱₀ (c : Thread nD τ) none) Set.univ (trip2 c v5 v19 v33 k acc)
          (fun _ => iprop(ctx X Wt K ∗ I2 X Wt f c (k.val + 1))) := fun k acc => by
    iintro ⟨#Hctx, HI⟩
    iapply (wp_wand_r frame (wpE (defs₀ (F := F)) 𝒱₀ (c : Thread nD τ) none) Set.univ)
    isplitl [HI]
    · iapply (trip2_run X Wt K f c v5 v19 v33 k)
      isplitr; · iexact Hctx
      iexact HI
    iintro %_ HI
    isplitr; · iexact Hctx
    iexact HI
  have h := Scf.wp_for_bind frame (wpE (defs₀ (F := F)) 𝒱₀ (c : Thread nD τ) none) Set.univ k0_t2_loop.lb k0_t2_loop.ub k0_t2_loop.st k0_t2_ok ()
    (trip2 c v5 v19 v33) (fun n _ => iprop(ctx X Wt K ∗ I2 X Wt f c n)) hb (kk := kk) (Q := Q)
  refine h.trans ?_
  rw [show Scf.trips k0_t2_loop.lb k0_t2_loop.ub k0_t2_loop.st = 7 from trips2]
  iintro H Hk
  iapply H
  iintro %_ ⟨-, HI⟩
  iapply Hk
  iexact HI

/-! ## The kernel -/

/-- A device's own part of the protocol in direction `δ`, and of both, at the start. -/
def Lin (δ : Bool) (c : Dev nD) : sProp 𝕄 :=
  iprop(CW δ c 0 ∗ SD δ c 0 ∗ atPos ER (cell c (sendK δ)) 0 ∅ 0 ∗ RW δ c 0 ∗ CS δ c 0 ∗ dutyTok ER (cell (up δ c) 7) 0 δ)
def Lins (c : Dev nD) : sProp 𝕄 :=
  iprop(Lin true c ∗ Lin false c ∗ atPos ER (cell c 7) 0 ∅ 0 ∗ cred (tallyAt (cell c 7) 0 2) ∗ atPos ER (cell c 4) 0 ∅ 0
    ∗ bigSep (Finset.Ico 0 8) (fun i => iprop(dutyTok ER (cell c 4) i true ∗ dutyTok ER (cell c 4) i false)))
/-- Its scratch buffers, at any contents. -/
def Scr (c : Dev nD) : sProp 𝕄 :=
  iprop((∃ f, aP c f) ∗ (∃ f, stP true c f) ∗ (∃ f, stP false c f) ∗ (∃ f, coP true c f) ∗ ∃ f, coP false c f)
/-- Every cell at zero. -/
def Zeros (c : Dev nD) : sProp 𝕄 :=
  iprop(semVal (cell c 0) 0 ∗ semVal (cell c 1) 0 ∗ semVal (cell c 2) 0 ∗ semVal (cell c 3) 0 ∗ semVal (cell c 4) 0 ∗ semVal (cell c 5) 0 ∗ semVal (cell c 6) 0
    ∗ semVal (cell c 7) 0)

theorem close_cell (c : Dev nD) (k : Fin 8) (r : ℕ) (h : r = lastK k) : iprop(ctx X Wt K ∗ atPos ER (cell c k) r ∅ 0) ⊢ (|={Set.univ}=> semVal (cell c k) 0 : sProp 𝕄) := by
  subst h
  iintro ⟨#Hctx, Hat⟩
  ihave #Hi := (ctx_inv X Wt K c k) $$ Hctx
  iapply (Rounds.cell_close ER (sched X Wt) (Set.mem_univ (K (c, k))) (fun h => h) (R := lastK k) (duties_after X Wt c k))
  isplitr; · iexact Hi
  iexact Hat

theorem close_dir (δ : Bool) (c : Dev nD) : iprop(ctx X Wt K ∗ CW δ c 13 ∗ SW δ c 14 ∗ RW δ c 14)
    ⊢ (|={Set.univ}=> iprop(semVal (cell c (sendK δ)) 0 ∗ semVal (cell c (recvK δ)) 0 ∗ semVal (cell c (credK δ)) 0) : sProp 𝕄) := by
  unfold CW SW RW
  iintro ⟨#Hctx, ⟨H1, -⟩, ⟨H2, -⟩, ⟨H3, -⟩⟩
  imod (close_cell X Wt K c (credK δ) 13 (by cases δ <;> rfl)) $$ [H1] with H1
  · isplitr; · iexact Hctx
    iexact H1
  imod (close_cell X Wt K c (sendK δ) 14 (by cases δ <;> rfl)) $$ [H2] with H2
  · isplitr; · iexact Hctx
    iexact H2
  imod (close_cell X Wt K c (recvK δ) 14 (by cases δ <;> rfl)) $$ [H3] with H3
  · isplitr; · iexact Hctx
    iexact H3
  imodintro
  isplitl [H2]; · iexact H2
  isplitl [H3] <;> iassumption

theorem owb_end (c : Dev nD) : owb c (7 + 7) (min (7 + 7) 13) (7 + 7) (min (7 + 7) 13) = 0 := by
  show owb c 14 13 14 13 = 0
  unfold owb; rw [owd_end, owd_end, add_zero]

set_option maxHeartbeats 4000000 in
theorem body_run (f : Vec F S4096x8192 .bf16) (c : Dev nD) :
    iprop(ctx X Wt K ∗ Lins c ∗ Scr c ∗ xP c (X c) ∗ wP c (Wt c) ∗ Out c f ∗ ow c (O₀ c))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scratch9 cc0_scratch10 cc0_scratch11)
          (fun _ => iprop(Zeros c ∗ Scr c ∗ xP c (X c) ∗ wP c (Wt c) ∗ Out c (outV X Wt) ∗ ow c 0)) := by
  obtain ⟨fs₁, e₁, r₁⟩ := st_view (F := F) true c (fin X Wt true c)
  obtain ⟨fs₂, e₂, r₂⟩ := st_view (F := F) false c (fin X Wt false c)
  have hS : ∀ δ, (stP δ c (fin X Wt δ c) : sProp 𝕄)
      = (if (0 : ℕ) = 0 then stP δ c (fin X Wt δ c) else coP δ c (recvV X Wt δ (6 + 0) c)) := fun δ => by rw [if_pos rfl]
  have h7 : ∀ δ, (Last δ c 0 : sProp 𝕄) = iprop(emp) := fun δ => by unfold Last; rw [if_pos (by omega)]
  have h8 : ∀ δ, (Last δ c 7 : sProp 𝕄) = iprop(∃ v, coP δ c v) := fun δ => by unfold Last; rw [if_neg (by omega)]
  simp only [cc0_body_eq_skeleton, k0_part5_eq_skeleton, k0_part6_eq_skeleton, k0_part7_eq_skeleton]
  unfold cc0_body_skel
  simp only [k0_part5_eq_skeleton, k0_part6_eq_skeleton, k0_part7_eq_skeleton]
  unfold k0_part5_skel k0_part6_skel k0_part7_skel
  simp only [semSignalWord, semWaitWord, Prog.lift, Prog.bind_op, Prog.bind_ret, Prog.pure_eq_ret, wp_deviceId, bind_assoc]
  unfold Lins Lin Scr
  iintro ⟨#Hctx, ⟨⟨Hcw, Hsd, Hsw, Hrw, Hcs, Htb⟩, ⟨Hcw', Hsd', Hsw', Hrw', Hcs', Htb'⟩, HaB, HcB, HaC, Htc⟩,
    ⟨Hacc, ⟨%g1, Hst⟩, ⟨%g2, Hst'⟩, ⟨%g3, Hco⟩, ⟨%g4, Hco'⟩⟩, Hx, Hw, Hout, HO⟩
  iapply (step_signal_bar X Wt K true c _ _ (dev1_eq c) (by decide) (O := O₁ c) rfl) $$ [Htb Hco HO]
  · isplitr; · iexact Hctx
    isplitl [Htb]; · iexact Htb
    isplitl [Hco]; · iexact Hco
    iexact HO
  iintro HO
  iapply (step_signal_bar X Wt K false c _ _ (dev2_eq c) (by decide) (O := owb c 0 0 0 0) rfl) $$ [Htb' Hco' HO]
  · isplitr; · iexact Hctx
    isplitl [Htb']; · iexact Htb'
    isplitl [Hco']; · iexact Hco'
    iexact HO
  iintro HO
  iapply (step_wait_bar X Wt K c _ (by decide)) $$ [HaB HcB HO]
  · isplitr; · iexact Hctx
    isplitl [HaB]; · iexact HaB
    isplitl [HcB]; · iexact HcB
    iexact HO
  iintro ⟨HaB, Hp, Hp', HO⟩
  iapply (load_x c true _ _ (off1_eq c)) $$ Hx; iintro Hx
  iapply (load_w c) $$ Hw; iintro Hw
  iapply (load_st true c) $$ Hst; iintro Hst
  iapply (store_st true c) $$ Hst; iintro Hst
  iapply (load_x c false _ _ (off2_eq c)) $$ Hx; iintro Hx
  iapply (load_w c) $$ Hw; iintro Hw
  iapply (load_st false c) $$ Hst'; iintro Hst'
  iapply (store_st false c) $$ Hst'; iintro Hst'
  -- the sums go round
  iapply (loop1_run X Wt K c _ _ _ _ _ _) $$ [Hst Hcw Hp Hsd Hsw Hrw Hcs Hst' Hcw' Hp' Hsd' Hsw' Hrw' Hcs' HO Hx Hw Hacc]
  · isplitr; · iexact Hctx
    unfold I1 D1 PC SW
    isplitl [Hst Hcw Hp Hsd Hsw Hrw Hcs]
    · isplitl [Hst]; · iexact Hst
      isplitl [Hcw Hp]
      · isplitl [Hcw] <;> iassumption
      isplitl [Hsd]; · iexact Hsd
      isplitl [Hsw]
      · isplitl [Hsw]; · iexact Hsw
        iapply (ctx_reached X Wt K c (sendK true)); iexact Hctx
      isplitl [Hrw] <;> iassumption
    isplitl [Hst' Hcw' Hp' Hsd' Hsw' Hrw' Hcs']
    · isplitl [Hst']; · iexact Hst'
      isplitl [Hcw' Hp']
      · isplitl [Hcw'] <;> iassumption
      isplitl [Hsd']; · iexact Hsd'
      isplitl [Hsw']
      · isplitl [Hsw']; · iexact Hsw'
        iapply (ctx_reached X Wt K c (sendK false)); iexact Hctx
      isplitl [Hrw'] <;> iassumption
    isplitl [HO]; · iexact HO
    isplitl [Hx]; · iexact Hx
    isplitl [Hw]; · iexact Hw
    iexact Hacc
  unfold I1 D1 PC
  iintro ⟨⟨Hst, Hcw, Hsd, Hsw, Hrw, Hcs⟩, ⟨Hst', Hcw', Hsd', Hsw', Hrw', Hcs'⟩, HO, Hx, Hw, Hacc⟩
  -- the finished half chunks
  iapply (load_st true c) $$ Hst; iintro Hst
  iapply (load_st true c) $$ Hst; iintro Hst
  iapply (store_st true c) $$ Hst; iintro Hst
  iapply (load_st false c) $$ Hst'; iintro Hst'
  iapply (load_st false c) $$ Hst'; iintro Hst'
  iapply (store_st false c) $$ Hst'; iintro Hst'
  ihave Ho := (out_start X Wt f c) $$ Hout
  icases Ho with ⟨Hod, Hod'⟩
  iapply (run_copies X Wt K c 0 (by omega) (mw_copy c _ _ _ _) f (v₁ := sM true) (v₂ := sM false) (fs₁ := fs₁) (fs₂ := fs₂)
      r₁ r₂ (S := fun δ => stP δ c (fin X Wt δ c)) e₁ e₂ hS (off5_eq c) (off6_eq c) (by rfl) (by rfl)) $$ [Hst Hst' Hod Hod' HaC Htc HO]
  · isplitr; · iexact Hctx
    isplitl [Hst]; · iexact Hst
    isplitl [Hst']; · iexact Hst'
    isplitl [Hod]; · iexact Hod
    isplitl [Hod']; · iexact Hod'
    isplitl [HaC Htc]
    · unfold CP
      isplitl [HaC]; · iexact HaC
      isplitr; · iapply (ctx_reached X Wt K c 4); iexact Hctx
      iexact Htc
    iexact HO
  iintro ⟨Hst, Hst', Hod, Hod', Hcp, HO⟩
  -- they go round
  iapply (loop2_run X Wt K f c _ _ _) $$ [Hcw Hsd Hsw Hrw Hcs Hod Hcw' Hsd' Hsw' Hrw' Hcs' Hod' Hcp HO]
  · isplitr; · iexact Hctx
    unfold I2 D2
    rw [h7, h7]
    isplitl [Hcw Hsd Hsw Hrw Hcs Hod]
    · isplitl [Hcw]; · iexact Hcw
      isplitl [Hsd]; · iexact Hsd
      isplitl [Hsw]; · iexact Hsw
      isplitl [Hrw]; · iexact Hrw
      isplitl [Hcs]; · iexact Hcs
      isplitl [Hod]; · iexact Hod
      iempintro
    isplitl [Hcw' Hsd' Hsw' Hrw' Hcs' Hod']
    · isplitl [Hcw']; · iexact Hcw'
      isplitl [Hsd']; · iexact Hsd'
      isplitl [Hsw']; · iexact Hsw'
      isplitl [Hrw']; · iexact Hrw'
      isplitl [Hcs']; · iexact Hcs'
      isplitl [Hod']; · iexact Hod'
      iempintro
    isplitl [Hcp]; · iexact Hcp
    iexact HO
  unfold I2 D2
  rw [h8, h8, owb_end]
  iintro ⟨⟨Hcw, -, Hsw, Hrw, -, Hod, Hco⟩, ⟨Hcw', -, Hsw', Hrw', -, Hod', Hco'⟩, Hcp, HO⟩
  rw [wp_ret]
  -- the cells closed
  imod (close_dir X Wt K true c) $$ [Hcw Hsw Hrw] with ⟨Hz0, Hz1, Hz5⟩
  · isplitr; · iexact Hctx
    isplitl [Hcw]; · iexact Hcw
    isplitl [Hsw] <;> iassumption
  imod (close_dir X Wt K false c) $$ [Hcw' Hsw' Hrw'] with ⟨Hz2, Hz3, Hz6⟩
  · isplitr; · iexact Hctx
    isplitl [Hcw']; · iexact Hcw'
    isplitl [Hsw'] <;> iassumption
  unfold CP
  icases Hcp with ⟨HaC, -, -⟩
  imod (close_cell X Wt K c 4 8 rfl) $$ [HaC] with Hz4
  · isplitr; · iexact Hctx
    iexact HaC
  imod (close_cell X Wt K c 7 1 rfl) $$ [HaB] with Hz7
  · isplitr; · iexact Hctx
    iexact HaB
  ihave Hout := (out_end X Wt f c) $$ [Hod Hod']
  · isplitl [Hod] <;> iassumption
  imodintro
  unfold Zeros
  isplitl [Hz0 Hz1 Hz2 Hz3 Hz4 Hz5 Hz6 Hz7]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6] <;> iassumption
  isplitl [Hacc Hst Hst' Hco Hco']
  · isplitl [Hacc]; · iexact Hacc
    isplitl [Hst]; · iexists _; iexact Hst
    isplitl [Hst']; · iexists _; iexact Hst'
    isplitl [Hco] <;> iassumption
  isplitl [Hx]; · iexact Hx
  isplitl [Hw]; · iexact Hw
  isplitl [Hout] <;> iassumption

end Body

end Cert.MatSilu

end
-- ==== Proof.Run.lean ====
/- The launch: the protocol's records minted and dealt to the eight devices, the credits each device's debts give the
   others, and the whole run from an arbitrary memory. -/
module

public import proofs.«01_k».proof.Proof.Body
public import Idealize.ShloMosaic.Lib.Pipeline.CollectiveSegs

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The duty tokens -/

/-- The tokens of direction `δ` of device `c`'s own cells, and the tokens device `c` pays with in that direction. -/
def TokB (δ : Bool) (c : Dev nD) : sProp 𝕄 := dutyTok ER (cell c 7) 0 δ
def TokS (δ : Bool) (c : Dev nD) : sProp 𝕄 := bigSep (Finset.Ico 0 14) (fun i => dutyTok ER (cell c (sendK δ)) i true)
def TokR (δ : Bool) (c : Dev nD) : sProp 𝕄 := bigSep (Finset.Ico 0 14) (fun i => dutyTok ER (cell c (recvK δ)) i true)
def TokC (δ : Bool) (c : Dev nD) : sProp 𝕄 := bigSep (Finset.Ico 0 13) (fun i => dutyTok ER (cell c (credK δ)) i true)
def TokD (δ : Bool) (c : Dev nD) : sProp 𝕄 := iprop(TokS δ c ∗ TokR δ c ∗ TokC δ c ∗ TokB δ c)
def PayD (δ : Bool) (c : Dev nD) : sProp 𝕄 := iprop(TokS δ c ∗ TokR δ (dn δ c) ∗ TokC δ (up δ c) ∗ TokB δ (up δ c))
/-- The tokens of its local copies. -/
def TokP (c : Dev nD) : sProp 𝕄 :=
  bigSep (Finset.Ico 0 8) (fun i => iprop(dutyTok ER (cell c 4) i true ∗ dutyTok ER (cell c 4) i false))
def Toks (c : Dev nD) : sProp 𝕄 := iprop(TokD true c ∗ TokD false c ∗ TokP c)
def Pays (c : Dev nD) : sProp 𝕄 := iprop(PayD true c ∗ PayD false c ∗ TokP c)

/-- The tokens dealt around the ring. -/
theorem around (δ : Bool) : (bigSep Finset.univ (fun c : Dev nD => (TokD δ c : sProp 𝕄))) ⊢ bigSep Finset.univ (fun c : Dev nD => PayD δ c) := by
  unfold TokD PayD
  rw [bigSep_sep', bigSep_sep', bigSep_sep', bigSep_sep', bigSep_sep', bigSep_sep',
    bigSep_univ_equiv (ring δ) (fun c : Dev nD => (TokR δ c : sProp 𝕄)),
    bigSep_univ_equiv (ring δ).symm (fun c : Dev nD => (TokC δ c : sProp 𝕄)),
    bigSep_univ_equiv (ring δ).symm (fun c : Dev nD => (TokB δ c : sProp 𝕄))]
  exact Entails.refl _

theorem toks_around : (bigSep Finset.univ (fun c : Dev nD => (Toks c : sProp 𝕄))) ⊢ bigSep Finset.univ (fun c : Dev nD => Pays c) := by
  unfold Toks Pays
  rw [bigSep_sep', bigSep_sep', bigSep_sep', bigSep_sep']
  iintro ⟨H1, H2, H3⟩
  isplitl [H1]; · iapply (around true) $$ H1
  isplitl [H2]; · iapply (around false) $$ H2
  iexact H3

/-- One cell's tokens as minted: two for each of fourteen rounds. -/
def Mint (c : Dev nD) (k : Fin 8) : sProp 𝕄 :=
  bigSep Finset.univ (fun x : Fin 14 × Bool => dutyTok ER (cell c k) x.1.val x.2)

theorem fin_range {M : Type} [URA M] (n : ℕ) (Φ : ℕ → sProp M) :
    bigSep Finset.univ (fun i : Fin n => Φ i.val) = bigSep (Finset.range n) Φ := by
  have h : (Finset.univ : Finset (Fin n)).map Fin.valEmbedding = Finset.range n := by
    ext i; rw [Finset.mem_map, Finset.mem_range]
    exact ⟨fun ⟨a, _, e⟩ => e ▸ a.isLt, fun hi => ⟨⟨i, hi⟩, Finset.mem_univ _, rfl⟩⟩
  rw [← h, bigSep_map]; rfl

theorem pick {M : Type} [URA M] {a b : ℕ} (h : a ≤ b) (Φ : ℕ → sProp M) : bigSep (Finset.range b) Φ ⊢ bigSep (Finset.Ico 0 a) Φ := by
  rw [← Finset.range_eq_Ico, ← bigSep_rest (Finset.range_subset_range.mpr h)]
  iintro ⟨H, -⟩
  iexact H

theorem mint_pick (c : Dev nD) (k : Fin 8) (n : ℕ) (h : n ≤ 14) :
    Mint c k ⊢ (bigSep (Finset.Ico 0 n) (fun i => iprop(dutyTok ER (cell c k) i true ∗ dutyTok ER (cell c k) i false)) : sProp 𝕄) := by
  unfold Mint
  rw [bigSep_univ_prod, bigSep_congr (s := Finset.univ) (Ψ := fun i : Fin 14 => (iprop(dutyTok ER (cell c k) i.val true ∗ dutyTok ER (cell c k) i.val false) : sProp 𝕄))
    (fun i _ => by rw [bigSep_univ_eq_bigSepL [true, false] (by decide) (by decide), bigSepL_cons_cons, bigSepL_singleton]; rfl),
    fin_range 14 (fun i => iprop(dutyTok ER (cell c k) i true ∗ dutyTok ER (cell c k) i false))]
  exact pick h _
theorem mint_true (c : Dev nD) (k : Fin 8) (n : ℕ) (h : n ≤ 14) :
    Mint c k ⊢ (bigSep (Finset.Ico 0 n) (fun i => dutyTok ER (cell c k) i true) : sProp 𝕄) :=
  (mint_pick c k n h).trans (by
    rw [bigSep_sep']
    iintro ⟨H, -⟩
    iexact H)
theorem mint_bar (c : Dev nD) : Mint c 7 ⊢ (iprop(TokB true c ∗ TokB false c) : sProp 𝕄) :=
  (mint_pick c 7 1 (by omega)).trans (Entails.of_eq (by rw [bigSep_Ico Nat.one_pos, Finset.Ico_self, bigSep_empty]; exact sep_emp_eq _))

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem mint_toks (c : Dev nD) : (bigSep Finset.univ (fun k : Fin 8 => (Mint c k : sProp 𝕄))) ⊢ Toks c := by
  rw [bigSep_fin8]
  unfold Toks TokD TokS TokR TokC TokP
  iintro ⟨H0, H1, H2, H3, H4, H5, H6, H7⟩
  ihave H7 := (mint_bar c) $$ H7
  icases H7 with ⟨Hb, Hb'⟩
  isplitl [H0 H1 H5 Hb]
  · isplitl [H0]; · iapply (mint_true c 0 14 (by omega)) $$ H0
    isplitl [H1]; · iapply (mint_true c 1 14 (by omega)) $$ H1
    isplitl [H5]; · iapply (mint_true c 5 13 (by omega)) $$ H5
    iexact Hb
  isplitl [H2 H3 H6 Hb']
  · isplitl [H2]; · iapply (mint_true c 2 14 (by omega)) $$ H2
    isplitl [H3]; · iapply (mint_true c 3 14 (by omega)) $$ H3
    isplitl [H6]; · iapply (mint_true c 6 13 (by omega)) $$ H6
    iexact Hb'
  iapply (mint_pick c 4 8 (by omega)) $$ H4

theorem mint_all : (bigSep Finset.univ fun c : Dev nD => bigSep Finset.univ fun k : Fin 8 => (Mint c k : sProp 𝕄)) ⊢ bigSep Finset.univ fun c : Dev nD => Toks c :=
  bigSep_mono fun c _ => mint_toks c

/-! ## The launch element -/

theorem cell_injective : Function.Injective (fun ck : Dev nD × Fin 8 => cell ck.1 ck.2) := by
  rintro ⟨c, k⟩ ⟨c', k'⟩ h
  have h1 : c = c' := congrArg (fun g : GSem nD τ sig => g.1.1) h
  have h2 : k = k' := csem_inj k k' (congrArg Prod.snd h)
  rw [h1, h2]
def ringCells : Finset (GSem nD τ sig) := Finset.univ.map ⟨fun ck : Dev nD × Fin 8 => cell ck.1 ck.2, cell_injective⟩

def tokOf (x : (Dev nD × Fin 8) × Fin 14 × Bool) : GSem nD τ sig × ℕ × Bool := (cell x.1.1 x.1.2, x.2.1.val, x.2.2)
theorem tokOf_injective : Function.Injective tokOf := by
  rintro ⟨ck, r, d⟩ ⟨ck', r', d'⟩ h
  have h1 : ck = ck' := cell_injective (congrArg Prod.fst h)
  have h2 : r = r' := Fin.ext (congrArg (fun x : GSem nD τ sig × ℕ × Bool => x.2.1) h)
  have h3 : d = d' := congrArg (fun x : GSem nD τ sig × ℕ × Bool => x.2.2) h
  rw [h1, h2, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

section Ghost

variable (X : Dev nD → Vec F S4096x512 .bf16) (Wt : Dev nD → Vec F S512x8192 .bf16)

/-- What the launch element deals device `c`, and what the allocation of the cells makes of it. -/
def G (c : Dev nD) : sProp 𝕄 :=
  iprop((bigSep Finset.univ fun k : Fin 8 => roundState ER (sched X Wt) (cell c k) 0)
    ∗ (bigSep Finset.univ fun k : Fin 8 => iprop(atPos ER (cell c k) 0 ∅ 0 ∗ reached ER (cell c k) 0)) ∗ Toks c)
def Linear (c : Dev nD) : sProp 𝕄 := iprop((bigSep Finset.univ fun k : Fin 8 => atPos ER (cell c k) 0 ∅ 0) ∗ Pays c)
def G' (c : Dev nD) : sProp 𝕄 := iprop(∃ K, records X Wt K ∗ Linear c)

theorem fund_ring : BI.own (ER (initOf ringCells ringToks)) ⊢ (|==> bigSep Finset.univ (G X Wt) : sProp 𝕄) := by
  have hX (Φ : GSem nD τ sig → sProp 𝕄) : bigSep ringCells Φ = bigSep Finset.univ fun c : Dev nD => bigSep Finset.univ fun k : Fin 8 => Φ (cell c k) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 8 => Mint c k := by
    unfold ringToks; rw [bigSep_map, bigSep_univ_prod, bigSep_univ_prod]; rfl
  iintro HX
  imod (Rounds.fund ER (sched X Wt) ringCells ringToks) $$ HX with ⟨Hst, Hr, Hat, Htok⟩
  imodintro
  ihave Hst' := (Entails.of_eq (hX fun g => roundState ER (sched X Wt) g 0)) $$ Hst
  ihave Hat' := (Entails.of_eq (hX fun g => atPos ER g 0 ∅ 0)) $$ Hat
  ihave Hr' := (Entails.of_eq (hX fun g => reached ER g 0)) $$ Hr
  ihave Htok := (Entails.of_eq hT) $$ Htok
  ihave Htok' := (mint_all (F := F)) $$ Htok
  unfold G; simp only [bigSep_sep']
  isplitl [Hst']; · iexact Hst'
  isplitl [Hat' Hr']
  · isplitl [Hat'] <;> iassumption
  iexact Htok'

/-- The kernel's own seven semaphores; the barrier semaphore is the launch's one unscoped semaphore. -/
abbrev osem : Fin 7 → SemLoc sig := fun | 0 => csem 0 | 1 => csem 1 | 2 => csem 2 | 3 => csem 3 | 4 => csem 4 | 5 => csem 5 | 6 => csem 6
theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (cell c 0) 0 ∗ semVal (cell c 1) 0 ∗ semVal (cell c 2) 0 ∗ semVal (cell c 3) 0 ∗ semVal (cell c 4) 0 ∗ semVal (cell c 5) 0 ∗ semVal (cell c 6) 0) := by
  rw [Pipeline.ownSems0_eq_of_list c osem [0, 1, 2, 3, 4, 5, 6] (by decide) (by decide)]; rfl
theorem unscopedSems0_eq (c : Dev nD) : (unscopedSems0 c : sProp 𝕄) = semVal (cell c 7) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 8 => semVal (cell c k) 0 : sProp 𝕄) := by
  rw [ownSems0_eq, unscopedSems0_eq, bigSep_fin8]
  iintro ⟨⟨H0, H1, H2, H3, H4, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem core_alloc (c : Dev nD) :
    iprop(Pipeline.ownSems0 (Ix := ℕ) (Name := ℕ) (U := UU) (Lvl := ℕ) (Val := Elt F) (τ := τ) osem c ∗ unscopedSems0 c ∗ G X Wt c)
      ⊢ |={Set.univ}=> iprop((bigSep Finset.univ fun k => iprop(∃ κ : ℕ, cellInv ER (sched X Wt) κ (cell c k)))
          ∗ (bigSep Finset.univ fun k => iprop(atPos ER (cell c k) 0 ∅ 0 ∗ reached ER (cell c k) 0)) ∗ Toks c) := by
  unfold G
  iintro ⟨Hos, Hus, Hst, Hat, Htok⟩
  ihave Hv := (sems0_eq (F := F) c) $$ [Hos Hus]
  · isplitl [Hos] <;> iassumption
  imod (show iprop((bigSep Finset.univ fun k : Fin 8 => semVal (cell c k) 0) ∗ bigSep Finset.univ fun k : Fin 8 => roundState ER (sched X Wt) (cell c k) 0)
      ⊢ (|={Set.univ}=> bigSep Finset.univ fun k => iprop(∃ κ : ℕ, cellInv ER (sched X Wt) κ (cell c k)) : sProp 𝕄) from by
        rw [← bigSep_sep']
        exact (bigSep_mono fun k _ => (Rounds.body_intro ER (sched X Wt) (cell c k)).trans inv_alloc).trans (bigSep_fupd _ _)) $$ [Hv Hst] with Hinv
  · isplitl [Hv] <;> iassumption
  imodintro
  isplitl [Hinv]; · iexact Hinv
  isplitl [Hat] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 8 → ℕ) (c : Dev nD) : iprop(records X Wt K ∗ Linear c) ⊢ G' X Wt c := by
  unfold G'
  iintro H
  iexists K; iexact H

theorem regroup :
    (bigSep Finset.univ fun c : Dev nD => iprop((bigSep Finset.univ fun k => iprop(∃ κ : ℕ, cellInv ER (sched X Wt) κ (cell c k)))
          ∗ (bigSep Finset.univ fun k => iprop(atPos ER (cell c k) 0 ∅ 0 ∗ reached ER (cell c k) 0)) ∗ Toks c) : sProp 𝕄)
      ⊢ bigSep Finset.univ (G' X Wt) := by
  rw [bigSep_sep', bigSep_sep', ← bigSep_univ_prod (fun ck : Dev nD × Fin 8 => iprop(∃ κ : ℕ, cellInv ER (sched X Wt) κ (cell ck.1 ck.2))),
    bigSep_congr (s := Finset.univ) (fun (c : Dev nD) _ => bigSep_sep' Finset.univ (fun k : Fin 8 => (atPos ER (cell c k) 0 ∅ 0 : sProp 𝕄)) (fun k => reached ER (cell c k) 0)),
    bigSep_sep', ← bigSep_univ_prod (fun ck : Dev nD × Fin 8 => (reached ER (cell ck.1 ck.2) 0 : sProp 𝕄))]
  iintro ⟨HI, ⟨Hat, #HR⟩, Htok⟩
  ihave HK := (BI.bigSep_exists_pi Finset.univ (fun (ck : Dev nD × Fin 8) (κ : ℕ) => (cellInv ER (sched X Wt) κ (cell ck.1 ck.2) : sProp 𝕄))) $$ HI
  icases HK with ⟨%K, #HI⟩
  ihave Htk := (toks_around (F := F)) $$ Htok
  iapply (with_persistent (R := records X Wt K) fun c _ => G'_intro X Wt K c)
  isplitr
  · unfold records; isplitl; · iexact HI
    iexact HR
  · unfold Linear
    rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

end Ghost

/-! ## The launch credit -/

/-- What every device owes the cell of kind `k` of the device `f` names, `f` a permutation, is one credit for each. -/
theorem cred_perm (f : Dev nD ≃ Dev nD) (k : Fin 8) (j n : ℕ) (c : Dev nD) :
    (Pipeline.launchCred (fun d => tallyAt (cell (f d) k) j n) c : sProp 𝕄) = cred (tallyAt (cell c k) j n) :=
  Pipeline.launchCred_of_sum (fun d => tallyAt (cell (f d) k) j n) (fun d => tallyAt (cell d k) j n)
    (Equiv.sum_comp f (fun d => (tallyAt (cell d k) j n : CellTallies nD τ sig ℕ)))
    (fun d g hg => by
      by_contra hne
      exact hg (tallyAt_ne_cell (fun e : g = cell d k => hne (congrArg Prod.fst e)) j n)) c

def CrD (δ : Bool) (c : Dev nD) : sProp 𝕄 :=
  iprop(bigSep (Finset.Ico 0 14) (fun j => cred (tallyAt (cell c (recvK δ)) j N)) ∗ bigSep (Finset.Ico 0 13) (fun j => cred (tallyAt (cell c (credK δ)) j 1)))

theorem cred_owd (δ : Bool) (c : Dev nD) : (Pipeline.launchCred (fun d => owd δ d 0 0) c : sProp 𝕄) = CrD δ c := by
  unfold owd CrD
  rw [Pipeline.launchCred_add, Pipeline.launchCred_sum, Pipeline.launchCred_sum]
  congr 1
  · exact bigSep_congr fun j _ => cred_perm (ring δ) (recvK δ) j N c
  · exact bigSep_congr fun j _ => cred_perm (ring δ).symm (credK δ) j 1 c

def Creds (c : Dev nD) : sProp 𝕄 := iprop(CrD true c ∗ CrD false c ∗ cred (tallyAt (cell c 7) 0 2))

theorem creds (c : Dev nD) : (Pipeline.launchCred O₀ c : sProp 𝕄) ⊢ Creds c := by
  have h : (Pipeline.launchCred O₀ c : sProp 𝕄)
      = iprop(((CrD true c ∗ CrD false c) ∗ cred (tallyAt (cell c 7) 0 1)) ∗ cred (tallyAt (cell c 7) 0 1)) := by
    rw [show O₀ = (fun d => ((owd true d 0 0 + owd false d 0 0) + tallyAt (cell (up false d) 7) 0 1) + tallyAt (cell (up true d) 7) 0 1) from rfl,
      Pipeline.launchCred_add, Pipeline.launchCred_add, Pipeline.launchCred_add, cred_owd, cred_owd]
    congr 1
    · congr 1
      exact cred_perm (ring false).symm 7 0 1 c
    · exact cred_perm (ring true).symm 7 0 1 c
  have h2 : iprop(cred (tallyAt (cell c 7) 0 1) ∗ cred (tallyAt (cell c 7) 0 1)) ⊢ (cred (tallyAt (cell c 7) 0 2) : sProp 𝕄) := by
    rw [show (tallyAt (cell c 7) 0 2 : CellTallies nD τ sig ℕ) = tallyAt (cell c 7) 0 1 + tallyAt (cell c 7) 0 1 from (tallyAt_add _ _ 1 1).symm]
    exact (cred_add _ _).2
  rw [h]; unfold Creds
  iintro ⟨⟨⟨H1, H2⟩, Ha⟩, Hb⟩
  isplitl [H1]; · iexact H1
  isplitl [H2]; · iexact H2
  iapply h2
  isplitl [Ha] <;> iassumption

theorem lins_intro (c : Dev nD) : iprop(Linear c ∗ Creds c) ⊢ (Lins c : sProp 𝕄) := by
  unfold Linear Creds Pays PayD CrD Lins Lin CW SD RW CS TokS TokR TokC TokB TokP
  rw [bigSep_fin8]
  iintro ⟨⟨⟨A0, A1, A2, A3, A4, A5, A6, A7⟩, ⟨S, R, C, B⟩, ⟨S', R', C', B'⟩, P⟩, ⟨V, U⟩, ⟨V', U'⟩, Z⟩
  isplitl [A0 A1 A5 S R C B V U]
  · isplitl [A5 U]
    · isplitl [A5] <;> iassumption
    isplitl [S R]
    · isplitl [S] <;> iassumption
    isplitl [A0]; · iexact A0
    isplitl [A1 V]
    · isplitl [A1] <;> iassumption
    isplitl [C] <;> iassumption
  isplitl [A2 A3 A6 S' R' C' B' V' U']
  · isplitl [A6 U']
    · isplitl [A6] <;> iassumption
    isplitl [S' R']
    · isplitl [S'] <;> iassumption
    isplitl [A2]; · iexact A2
    isplitl [A3 V']
    · isplitl [A3] <;> iassumption
    isplitl [C'] <;> iassumption
  isplitl [A7]; · iexact A7
  isplitl [Z]; · iexact Z
  isplitl [A4] <;> iassumption

end Cert.MatSilu

end
-- ==== Proof.Main.lean ====
/- The whole run: the eight devices' kernels from an arbitrary memory, to the result on every device. -/
module

public import proofs.«01_k».proof.Proof.Run

@[expose] public section

noncomputable section

namespace Cert.MatSilu

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- Device `c`'s blocks of the arguments. -/
def argX (c : Dev nD) : Vec F S4096x512 .bf16 := m ((c : Thread nD τ).loc main_arg0)
def argW (c : Dev nD) : Vec F S512x8192 .bf16 := m ((c : Thread nD τ).loc main_arg1)
/-- The result, the same on every device. -/
def result : Vec F S4096x8192 .bf16 := outV (argX m) (argW m)

/-! ## The launch's proof data -/

theorem cfg0_N : cfg0.N = 1 := N_0
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s kernel starts from beside its scratch: its share of the protocol, its credits, the levels, its
    result array as launched. -/
def Start (c : Dev nD) : sProp 𝕄 :=
  iprop(G' (argX m) (argW m) c ∗ Creds c ∗ levAts L lv ∗ ∃ f, Out c f)
def Φ₀ (c : Dev nD) : sProp 𝕄 := iprop(Start m c ∗ Scr c)
def Φ₁ (c : Dev nD) : sProp 𝕄 := iprop(Zeros c ∗ Scr c ∗ Out c (result m))

def dats (_ : Fin 1) (c : Dev nD) : Dat τ (Elt F) ℕ ℕ UU ℕ cfg0 c where
  A w := m ((cfg0.win w).arr.view.loc (c : Thread nD τ))
  after w _ := match w with
    | ⟨0, _⟩ => argX m c
    | ⟨1, _⟩ => argW m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl
theorem fetch_1 (t : Fin cfg0.N) : (cfg0.win (1 : Fin 2)).fetch t = true := by rw [fin_N t]; rfl

theorem owns_whole_eq (c : Dev nD) (b : Ref sig .tc) (v : b.ty.Contents (Elt F)) :
    (owns (Ix := ℕ) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-- A staging buffer at contents `v`. -/
def stg (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

def bodyPre (c : Dev nD) : sProp 𝕄 :=
  iprop(Φ₀ m c ∗ (dats m 0 c).owesAt 0 t₀.castSucc
    ∗ (∃ d, stg c cc0_stg0_0 ((dats m 0 c).before (0 : Fin 2) t₀ d))
    ∗ (∃ d, stg c cc0_stg1_0 ((dats m 0 c).before (1 : Fin 2) t₀ d)))
def bodyPost (c : Dev nD) : sProp 𝕄 :=
  iprop(Φ₁ m c ∗ (dats m 0 c).owesAt 0 t₀.succ ∗ stg c cc0_stg0_0 (argX m c) ∗ stg c cc0_stg1_0 (argW m c))

theorem before_x (c : Dev nD) (d) : (dats m 0 c).before (0 : Fin 2) t₀ d = argX m c := by
  unfold Dat.before; rw [if_pos (fetch_0 t₀)]; funext j
  refine congrArg (m ((c : Thread nD τ).loc main_arg0)) (funext fun a => Fin.ext ?_)
  show _ * _ + 1 * (j a).val = (j a).val
  rw [Nat.one_mul]; exact (congrArg (· + (j a).val) (Nat.zero_mul _)).trans (Nat.zero_add _)
theorem before_w (c : Dev nD) (d) : (dats m 0 c).before (1 : Fin 2) t₀ d = argW m c := by
  unfold Dat.before; rw [if_pos (fetch_1 t₀)]; funext j
  refine congrArg (m ((c : Thread nD τ).loc main_arg1)) (funext fun a => Fin.ext ?_)
  show _ * _ + 1 * (j a).val = (j a).val
  rw [Nat.one_mul]; exact (congrArg (· + (j a).val) (Nat.zero_mul _)).trans (Nat.zero_add _)

set_option maxRecDepth 4000 in
theorem body_pre_post (c : Dev nD) : bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole main_v1) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11) (fun _ => bodyPost m c) := by
  unfold bodyPre Φ₀ Start G' stg Dat.owesAt Pipeline.owesWithin
  rw [show (dats m 0 c).owed t₀.castSucc = O₀ c from rfl]
  iintro ⟨⟨⟨⟨%K, #HR, HL⟩, HC, #Hlev, ⟨%f, Ho⟩⟩, Hscr⟩, ⟨%W, -, HO⟩, ⟨%d0, %g0, %hg0, Hx⟩, ⟨%d1, %g1, %hg1, Hw⟩⟩
  rw [before_x] at hg0; rw [before_w] at hg1
  subst hg0 hg1
  iapply (wp_wand_r frame (wpE (defs₀ (F := F)) 𝒱₀ (c : Thread nD τ) none) Set.univ)
  isplitl
  · iapply (body_run (argX m) (argW m) K f c)
    isplitr
    · unfold ctx
      isplitr; · iexact HR
      iexact Hlev
    isplitl [HL HC]
    · iapply (lins_intro c)
      isplitl [HL] <;> iassumption
    isplitl [Hscr]; · iexact Hscr
    isplitl [Hx]; · unfold xP; iexact Hx
    isplitl [Hw]; · unfold wP; iexact Hw
    isplitl [Ho]; · iexact Ho
    unfold ow; iexists W; iexact HO
  iintro %_ ⟨Hz, Hscr, Hx, Hw, Ho, HO⟩
  unfold bodyPost Φ₁ Dat.owesAt Pipeline.owesWithin ow result xP wP stg
  rw [show (dats m 0 c).owed t₀.succ = 0 from rfl]
  icases HO with ⟨%W', HO⟩
  isplitl [Hz Hscr Ho]
  · isplitl [Hz]; · iexact Hz
    isplitl [Hscr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 4000 in
/-- The library's body obligation on device `c`. -/
theorem body_obligation (c : Dev nD) : BodyObligation (dats (F := F) m 0 c) (defs₀ (F := F)) 𝒱₀ 0 Set.univ := fun t => by
  rw [fin_N t]
  rw [bigSep_W, bigSep_W]
  simp only [owns_whole_eq]
  exact body_pre_post m c

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argX m) (argW m) c)
      ⊢ |={Set.univ}=> iprop(Start m c ∗ emp) := by
  rw [Pipeline.unscopedRestP_none]
  iintro ⟨Hr, Hlev, Hcr, -, HG⟩
  ihave Hr := (Entails.of_eq (unscopedRest0_eq c (fun b => m ((c : Thread nD τ).loc b)))) $$ Hr
  ihave Hc := (creds (F := F) c) $$ Hcr
  imodintro
  unfold Start Out
  isplitl
  · isplitl [HG]; · iexact HG
    isplitl [Hc]; · iexact Hc
    isplitl [Hlev]; · iexact Hlev
    iexists _; iexact Hr
  · iempintro

theorem scr_eq (c : Dev nD) : (Pipeline.scopedRest cfg0.spec c : sProp 𝕄) = Scr c :=
  (scopedRest0_eq c).trans rfl

theorem phi0_intro (c : Dev nD) :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

/-- What is left of a device's run: the barrier cell at zero and the result. -/
def Left (c : Dev nD) : sProp 𝕄 := iprop(unscopedSems0 c ∗ Out c (result m))

theorem phi1_exit (c : Dev nD) :
    (dats m 0 c).Φ (Fin.last cfg0.N) ⊢ iprop(Left m c ∗ Pipeline.ownSems0 osem c ∗ Pipeline.scopedRest cfg0.spec c) := by
  rw [show (dats m 0 c).Φ (Fin.last cfg0.N) = Φ₁ m c from rfl, scr_eq, ownSems0_eq]
  unfold Φ₁ Zeros Left
  rw [unscopedSems0_eq]
  iintro ⟨⟨H0, H1, H2, H3, H4, H5, H6, H7⟩, Hr, Ho⟩
  isplitl [H7 Ho]
  · isplitl [H7] <;> iassumption
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  iexact Hr

theorem waits (c : Dev nD) : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

theorem read_left (c : Dev nD) (s' : Phys nD τ sig (Elt F)) :
    (iprop(Left m c ∗ emp ∗ SI s') : sProp 𝕄)
      ⊢ |={Set.univ}=> iprop(⌜(∀ sm : SemLoc sig, sm.isScoped .tc = false → s'.mem.sem ((c.tc : Thread nD τ), sm) = 0)
          ∧ s'.mem.mem ((c.tc : Thread nD τ).loc main_v1) = result m⌝ ∗ SI s') := by
  unfold Left Out
  iintro ⟨⟨Hu, Ho⟩, -, HSI⟩
  ihave %h := (SI_pointsTo_agree (st := s') (ℓ := (c : Thread nD τ).loc main_v1) (I := Finset.univ) (q := fullShare) (f := result m)) $$ [HSI Ho]
  · isplitl [HSI] <;> iassumption
  imod (Pipeline.unscopedSems0_read (X := (unscopedSems0 c : sProp 𝕄)) (c := c) fupd_intro s') $$ [Hu HSI] with ⟨%hs, HSI⟩
  · isplitl [Hu] <;> iassumption
  imodintro
  isplitr
  · ipureintro; exact ⟨hs, funext fun i => h i (Finset.mem_univ i)⟩
  iexact HSI

/-! ## The run -/

set_option maxRecDepth 8000 in
/-- For any float values, from any memory with every counter at zero: every execution of the eight kernels terminates
    without a fault, every device's result array ends at `result`, the arguments unchanged, every counter at zero. -/
theorem run_main : θ_run defs (onTc (τ := τ) (main (F := F))) ⟨m, fun _ => 0, ρ⟩ (fun r =>
    (∀ c : Dev nD, r.2.mem ((c.tc : Thread nD τ).loc main_v1) = result m
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argX m) (argW m)) (G' := G' (argX m) (argW m)) (u₀ := u₀)
    (hu₀ := by
      unfold u₀
      iintro Hu
      ihave H := (ownU_pair _ _) $$ Hu
      icases H with ⟨HP, HX⟩
      imod (fund_ring (argX m) (argW m)) $$ HX with HG
      imodintro
      isplitl [HP] <;> iassumption)
    (hglob := glob (argX m) (argW m))
    (hA := fun _ _ => rfl) (hpf := fun _ k => k.elim0)
    (X := Start m) (Y := Left m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c.tc : Thread nD τ).loc main_v1) = result m)
    (hY := read_left m)
    (hQ := fun _ h hs => ⟨fun c => ⟨(h c).2.2.2, ((h c).1 (0 : Fin 2)).trans ((dats m 0 c).arrAt_in (0 : Fin 2) rfl _),
        ((h c).1 (1 : Fin 2)).trans ((dats m 0 c).arrAt_in (1 : Fin 2) rfl _)⟩, sem_eq_zero hs fun c => (h c).2.2.1⟩)

end Cert.MatSilu

end
-- ==== Proof.Frames.lean ====
/- The kernel's run, without the result, for any float values; and the same of the kernel's own program, whose text is
   the idealized one's word for word. -/
module

public import proofs.«01_k».proof.Defs
public import proofs.«01_k».proof.Proof.Main
public import proofs.«01_k».proof.Proof.Gen.Kernel

@[expose] public section

noncomputable section

namespace Cert.MatSilu

open Idealize.ShloMosaic Idealize.SL.Sem

/-- The run of `Main.lean` without the result. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main (F := F) m ρ)

/-! ## The two programs are one text -/

section Same

variable {F : FTy → Type} [FloatOps F]

theorem body_same : Cert.Kernel.cc0_body (F := F) = Cert.KernelIdeal.cc0_body (F := F) := by
  unfold Cert.Kernel.cc0_body Cert.KernelIdeal.cc0_body
  rfl

theorem defs₀_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F)
    (Λ := Cert.KernelIdeal.Λ₀)) ?_
  funext ℓ x
  match ℓ with
  | 0 =>
    obtain ⟨t, s⟩ := x
    dsimp only
    rw [body_same]
  | ⟨_ + 1, h⟩ => exact absurd h (Nat.not_lt.2 (Nat.le_add_left _ _))

theorem defs_same : Cert.Kernel.defs (F := F) = Cert.KernelIdeal.defs (F := F) := by
  unfold Cert.Kernel.defs Cert.KernelIdeal.defs
  rw [defs₀_same]
  rfl

end Same

/-! ## The claims -/

theorem frame_kernel : Cert.quiescent_Kernel := by
  intro m ρ _
  rw [defs_same]
  exact frame_any (F := Bits) m ρ
theorem frame_ideal : Cert.quiescent_KernelIdeal := fun m ρ _ => frame_any (F := Ideal) m ρ

end Cert.MatSilu

end
-- ==== Proof.Ref.lean ====
/- The result as a function of the whole arrays. On extended reals the ring's sum of eight partial products is the whole
   product, and `silu` of it is the references' quotient; the clip of the second reference changes nothing where every
   device's partial product is at most 7.5 in size. -/
module

public import proofs.«01_k».proof.Proof.Value
public import Idealize.ShloMosaic.Lib.Pointwise
public import Idealize.ShloMosaic.Lib.IdealHost
public import Idealize.ShloMosaic.Lib.ReduceAll
public import Idealize.ShloMosaic.Lib.Layout
public import proofs.«01_k».proof.Pre_partial_products_bounded_KernelIdeal
public import proofs.«01_k».proof.Proof.Gen.Pre_partial_products_bounded_KernelIdeal
public import proofs.«01_k».proof.Proof.Gen.ReferenceIdeal.Run
public import proofs.«01_k».proof.Proof.Gen.SiluIdeal.Run

@[expose] public section

noncomputable section

namespace Cert.MatSilu

open Cert.KernelIdeal Cert.KernelIdeal.Gen
open Idealize.ShloMosaic Idealize.ShloMosaic.TcCoe

/-! ## Extended reals -/

theorem exp_nonneg (x : EReal) : 0 ≤ Ideal.exp x := by
  induction x with
  | bot => exact le_refl _
  | top => exact le_top
  | coe r => exact EReal.coe_nonneg.mpr (Real.exp_pos r).le

theorem one_add_exp_ne (x : EReal) : (1 : EReal) + Ideal.exp x ≠ 0 := by
  intro h
  have h1 : (1 : EReal) ≤ 1 + Ideal.exp x := le_add_of_nonneg_right (exp_nonneg x)
  rw [h] at h1
  exact absurd h1 (not_le.mpr zero_lt_one)

/-- `silu` spelt with a product is `silu` spelt with a quotient. -/
theorem mul_logistic (y : EReal) : y * Ideal.logistic y = Ideal.div y (1 + Ideal.exp (-y)) := by
  unfold Ideal.logistic Ideal.div
  rw [if_neg (one_add_exp_ne _), if_neg (one_add_exp_ne _), one_mul]

theorem word_sixty : Ideal.ofBits .f32 0x42700000#32 = ((60 : ℝ) : EReal) := by
  simp [Ideal.ofBits, Ideal.ieee, -EReal.coe_mul]; norm_num
theorem word_neg_sixty : Ideal.ofBits .f32 0xC2700000#32 = ((-60 : ℝ) : EReal) := by
  simp [Ideal.ofBits, Ideal.ieee, -EReal.coe_mul, -EReal.coe_neg]; norm_num
theorem word_bound : Ideal.ofBits .f32 0x40F00000#32 = ((7.5 : ℝ) : EReal) := by
  simp [Ideal.ofBits, Ideal.ieee, -EReal.coe_mul]; norm_num

/-- Eight numbers, each at most 7.5 in size, sum to at most 60 in size. -/
theorem sum_bounded (f : Fin 8 → EReal) (h : ∀ d, max (f d) (-f d) ≤ ((7.5 : ℝ) : EReal)) :
    ((-60 : ℝ) : EReal) ≤ ∑ d, f d ∧ ∑ d, f d ≤ ((60 : ℝ) : EReal) := by
  have hc : ∀ a : ℝ, ∑ _d : Fin 8, ((a : ℝ) : EReal) = ((8 * a : ℝ) : EReal) := by
    intro a
    rw [Fin.sum_univ_eight]
    simp only [← EReal.coe_add]
    exact congrArg _ (by ring)
  constructor
  · rw [show (-60 : ℝ) = 8 * (-7.5) by norm_num, ← hc]
    refine Finset.sum_le_sum fun d _ => ?_
    rw [EReal.coe_neg]
    exact EReal.neg_le_of_neg_le ((le_max_right _ _).trans (h d))
  · rw [show (60 : ℝ) = 8 * 7.5 by norm_num, ← hc]
    exact Finset.sum_le_sum fun d _ => (le_max_left _ _).trans (h d)

/-- A number at most 60 in size is its own clip. -/
theorem clip_id (y : EReal) (h : ((-60 : ℝ) : EReal) ≤ y ∧ y ≤ ((60 : ℝ) : EReal)) :
    min ((60 : ℝ) : EReal) (max ((-60 : ℝ) : EReal) y) = y := by
  rw [max_eq_right h.1, min_eq_right h.2]

/-! ## One device's partial product -/

/-- Device `d`'s partial product at a row and a column. -/
def pp (X : Dev nD → Vec Ideal S4096x512 .bf16) (Wt : Dev nD → Vec Ideal S512x8192 .bf16) (i : S4096x8192.Idx) (d : Dev nD) : EReal :=
  ∑ k : Fin 512, X d (ix2 (i 0) k) * Wt d (ix2 k (i 1))

theorem cast_self {s : Shape} {α : Type} (v : s.Idx → α) (h : s.ShapeCasts s) : shapeCast s v h = v :=
  funext fun i => congrArg v (Shape.reshapeEquiv_self h i)

/-- A row of a half chunk's rows is that row of the block. -/
theorem rows_apply (δ : Bool) (r : Dev nD) (x : Vec Ideal S4096x512 .bf16) (j : S256x8192.Idx) (k : Fin 512) :
    rows δ r x (ix2 (j 0) k) = x (ix2 (((oRect δ r).emb j) 0) k) := by
  unfold rows
  refine congrArg x (funext fun a => Fin.ext ?_)
  match a with
  | ⟨0, _⟩ =>
    rw [show (ix2 (((oRect δ r).emb j) 0) k : S4096x512.Idx) ⟨0, by decide⟩ = ((oRect δ r).emb j) 0 from rfl, emb_row]
    show (512 * r.val + (if δ then 0 else 256)) + 1 * (j 0).val = _
    omega
  | ⟨1, _⟩ =>
    show 0 + 1 * k.val = k.val
    omega

section Sums

variable (X : Dev nD → Vec Ideal S4096x512 .bf16) (Wt : Dev nD → Vec Ideal S512x8192 .bf16)

theorem part_apply (δ : Bool) (d r : Dev nD) (j : S256x8192.Idx) : part X Wt δ d r j = pp X Wt ((oRect δ r).emb j) d := by
  unfold part k0_pay1 pp
  simp only [cast_self]
  simp only [pointwise]
  rw [zero_add]
  refine Finset.sum_congr rfl fun k _ => ?_
  have hc : (j 1 : Fin 8192) = ((oRect δ r).emb j) 1 := Fin.ext (emb_col δ r j).symm
  exact congrArg₂ (· * ·) (rows_apply δ r (X d) j k) (congrArg (fun l => Wt d (ix2 k l)) hc)

theorem sumV_succ (δ : Bool) (s : ℕ) (c : Dev nD) (j : S256x8192.Idx) :
    sumV X Wt δ (s + 1) c j = part X Wt δ c (fl (anc δ (s + 2) c)) j + sumV X Wt δ s (up δ c) j := by
  rw [sumV, k0_pay6, k0_pay3, cast_self]
  generalize part X Wt δ c (fl (anc δ (s + 2) c)) = a
  generalize sumV X Wt δ s (up δ c) = b
  rfl

theorem sumV_apply (δ : Bool) (s : ℕ) : ∀ (c : Dev nD) (j : S256x8192.Idx),
    sumV X Wt δ s c j = ∑ t ∈ Finset.range (s + 1), part X Wt δ (anc δ t c) (fl (anc δ (s + 1) c)) j := by
  induction s with
  | zero => intro c j; rw [Finset.sum_range_one]; rfl
  | succ s ih =>
    intro c j
    rw [Finset.sum_range_succ']
    rw [sumV_succ, ih, add_comm]
    rfl

/-- The whole sum a device ends its first loop with is the sum over all devices. -/
theorem sumV_all (δ : Bool) (c : Dev nD) (j : S256x8192.Idx) :
    sumV X Wt δ 7 c j = ∑ d : Dev nD, pp X Wt ((oRect δ (fl c)).emb j) d := by
  rw [sumV_apply, Finset.sum_range, anc_eight]
  refine Fintype.sum_bijective (fun t : Fin 8 => anc δ t c) ⟨fun t t' h => anc_inj δ c t t' h, anc_surj δ c⟩ _ _ fun t => ?_
  exact part_apply X Wt δ _ _ j

/-- An index of the result is the place of its row and column within its half chunk. -/
theorem emb_subIdx (i : S4096x8192.Idx) : (oRect (rowHalf i) (rowChunk i)).emb (subIdx i) = i := by
  funext a; apply Fin.ext
  match a with
  | ⟨0, _⟩ =>
    refine (emb_row _ _ _).trans ?_
    show 512 * ((i 0).val / 512) + (if rowHalf i then 0 else 256) + (i 0).val % 256 = (i 0).val
    unfold rowHalf
    by_cases hh : (i 0).val % 512 < 256
    · rw [if_pos (decide_eq_true hh)]; omega
    · rw [if_neg (by simpa using hh)]; omega
  | ⟨1, _⟩ => exact emb_col _ _ _

/-- The whole sum at an index of the result. -/
def total (i : S4096x8192.Idx) : EReal := ∑ d : Dev nD, pp X Wt i d

theorem outV_apply (i : S4096x8192.Idx) : outV X Wt i = Ideal.div (total X Wt i) (1 + Ideal.exp (-total X Wt i)) := by
  have h : sumV X Wt (rowHalf i) 7 (fl (rowChunk i)) (subIdx i) = total X Wt i := by
    rw [sumV_all, fl_fl, emb_subIdx]; rfl
  rw [← mul_logistic, ← h]
  unfold outV fin
  generalize sumV X Wt (rowHalf i) 7 (fl (rowChunk i)) = v
  rw [k0_pay8, cast_self]
  rfl

end Sums

/-! ## The whole product -/

/-- Device `d`'s rows or columns within the whole. -/
def col (d : Dev nD) (k : Fin 512) : Fin 4096 := ⟨d.val * 512 + k.val, by have := d.isLt; have := k.isLt; show _ < 4096; change d.val < 8 at *; omega⟩

/-- A sum over the whole contraction is the devices' sums over their blocks. -/
theorem sum_blocks (f : Fin 4096 → EReal) : ∑ d : Dev nD, ∑ k : Fin 512, f (col d k) = ∑ l : Fin 4096, f l := by
  rw [← Fintype.sum_prod_type']
  refine Fintype.sum_equiv (finProdFinEquiv (m := 8) (n := 512)) _ _ fun p => ?_
  refine congrArg f (Fin.ext ?_)
  show p.1.val * 512 + p.2.val = p.2.val + 512 * p.1.val
  omega

section Whole

variable (x : FVec Ideal ⟨2, ![4096, 4096]⟩ .bf16) (w : FVec Ideal ⟨2, ![4096, 8192]⟩ .bf16)

/-- The whole product at a row and a column. -/
def whole (i : S4096x8192.Idx) : EReal := ∑ l : Fin 4096, x (ix2 (i 0) l) * w (ix2 l (i 1))

theorem total_whole (X : Dev nD → Vec Ideal S4096x512 .bf16) (Wt : Dev nD → Vec Ideal S512x8192 .bf16)
    (hX : ∀ c : Dev nD, X c = Layout.block ⟨2, ![4096, 512]⟩ ⟨2, ![4096, 4096]⟩ 1 8 c x)
    (hW : ∀ c : Dev nD, Wt c = Layout.block ⟨2, ![512, 8192]⟩ ⟨2, ![4096, 8192]⟩ 0 8 c w) (i : S4096x8192.Idx) :
    total X Wt i = whole x w i := by
  unfold total whole
  rw [← sum_blocks]
  refine Finset.sum_congr rfl fun d _ => Finset.sum_congr rfl fun k _ => ?_
  rw [hX d, hW d]
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

/-- The first reference's term at an index. -/
theorem silu_term (i : S4096x8192.Idx) :
    (truncf .bf16 (Host.divf (Host.dotGeneral Cert.SiluIdeal.dot_S4096x4096_S4096x8192_S4096x8192_1_0_0_1_n_n none x w)
      (addf (broadcastInDim Cert.SiluIdeal.S4096x8192 ![] Cert.SiluIdeal.Facts₀.bcast_S_S4096x8192 (constant Cert.SiluIdeal.S_ .f32 0x3F800000#32))
        (Host.exp (Host.negf (Host.dotGeneral Cert.SiluIdeal.dot_S4096x4096_S4096x8192_S4096x8192_1_0_0_1_n_n none x w)))))
      Cert.SiluIdeal.Facts₀.bitsLt_bf16_f32 : FVec Ideal Cert.SiluIdeal.S4096x8192 .bf16) i
      = Ideal.div (whole x w i) (1 + Ideal.exp (-whole x w i)) := by
  simp only [pointwise]
  rw [zero_add]
  rfl

/-- The second reference's term at an index, where the product is within the clip. -/
theorem clip_term (i : S4096x8192.Idx) (h : ((-60 : ℝ) : EReal) ≤ whole x w i ∧ whole x w i ≤ ((60 : ℝ) : EReal)) :
    (truncf .bf16 (Host.divf (Host.dotGeneral Cert.ReferenceIdeal.dot_S4096x4096_S4096x8192_S4096x8192_1_0_0_1_n_n none x w)
      (addf (broadcastInDim Cert.ReferenceIdeal.S4096x8192 ![] Cert.ReferenceIdeal.Facts₀.bcast_S_S4096x8192 (constant Cert.ReferenceIdeal.S_ .f32 0x3F800000#32))
        (Host.exp (Host.negf (minimumf (broadcastInDim Cert.ReferenceIdeal.S4096x8192 ![] Cert.ReferenceIdeal.Facts₀.bcast_S_S4096x8192 (id (constant Cert.ReferenceIdeal.S_ .f32 0x42700000#32)))
          (maximumf (broadcastInDim Cert.ReferenceIdeal.S4096x8192 ![] Cert.ReferenceIdeal.Facts₀.bcast_S_S4096x8192 (id (constant Cert.ReferenceIdeal.S_ .f32 0xC2700000#32)))
            (Host.dotGeneral Cert.ReferenceIdeal.dot_S4096x4096_S4096x8192_S4096x8192_1_0_0_1_n_n none x w)))))))
      Cert.ReferenceIdeal.Facts₀.bitsLt_bf16_f32 : FVec Ideal Cert.ReferenceIdeal.S4096x8192 .bf16) i
      = Ideal.div (whole x w i) (1 + Ideal.exp (-whole x w i)) := by
  simp only [pointwise]
  rw [zero_add, show id (constant (F := Ideal) Cert.ReferenceIdeal.S_ .f32 0x42700000#32) ix0 = ((60 : ℝ) : EReal) from word_sixty,
    show id (constant (F := Ideal) Cert.ReferenceIdeal.S_ .f32 0xC2700000#32) ix0 = ((-60 : ℝ) : EReal) from word_neg_sixty]
  have e := clip_id (whole x w i) h
  unfold whole at e ⊢
  rw [e]

end Whole

/-! ## The bound -/

theorem bit_true {b : Bool} (h : BitVec.ofBool b = 1#1) : b = true := by
  cases b
  · exact absurd h (by decide)
  · rfl

/-- The stated bound of a device's blocks is a bound of its partial product at every index. -/
theorem pp_bounded (X : Dev nD → Vec Ideal S4096x512 .bf16) (Wt : Dev nD → Vec Ideal S512x8192 .bf16) (d : Dev nD)
    (h : Cert.Pre_partial_products_bounded_KernelIdeal.fn (F := Ideal) (X d) (Wt d) = fun _ => 1#1) (i : S4096x8192.Idx) :
    max (pp X Wt i d) (-pp X Wt i d) ≤ ((7.5 : ℝ) : EReal) := by
  have e := congrFun h (Shape.Idx.first Cert.Pre_partial_products_bounded_KernelIdeal.Facts.h_S_)
  dsimp only [Cert.Pre_partial_products_bounded_KernelIdeal.fn] at e
  haveI : Subsingleton Cert.Pre_partial_products_bounded_KernelIdeal.S_.Idx := ⟨fun a b => funext fun t => t.elim0⟩
  have e' := Host.reduce_andi_all _ _ _ _ _ e i
  simp only [pointwise] at e'
  rw [zero_add, word_bound] at e'
  exact of_decide_eq_true (bit_true e')

/-- The whole product is within the clip when every device's blocks are bounded. -/
theorem total_bounded (X : Dev nD → Vec Ideal S4096x512 .bf16) (Wt : Dev nD → Vec Ideal S512x8192 .bf16)
    (h : ∀ d : Dev nD, Cert.Pre_partial_products_bounded_KernelIdeal.fn (F := Ideal) (X d) (Wt d) = fun _ => 1#1) (i : S4096x8192.Idx) :
    ((-60 : ℝ) : EReal) ≤ total X Wt i ∧ total X Wt i ≤ ((60 : ℝ) : EReal) :=
  sum_bounded (pp X Wt i) fun d => pp_bounded X Wt d (h d) i

end Cert.MatSilu

end
-- ==== Proof.lean ====
module

public import proofs.«01_k».proof.Defs
public import proofs.«01_k».proof.Proof.Frames
public import proofs.«01_k».proof.Proof.Ref
public import proofs.«01_k».proof.Proof.Gen.Kernel
public import proofs.«01_k».proof.Proof.Gen.KernelIdeal
public import proofs.«01_k».proof.Proof.Gen.ReferenceIdeal
public import proofs.«01_k».proof.Proof.Gen.SiluIdeal
public import proofs.«01_k».proof.Proof.Gen.Pre_partial_products_bounded_KernelIdeal
public import proofs.«01_k».proof.Proof.Gen.Pre_partial_products_bounded_ReferenceIdeal
public import Idealize.ShloMosaic.Lib.Quiescent

@[expose] public section

noncomputable section

namespace Cert.MatSilu

open Idealize.ShloMosaic Idealize.SL.Sem

/-! ## The references' frames -/

theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems rfl r.2⟩)
    (Cert.ReferenceIdeal.Value.run (F := Ideal) m ρ)

theorem frame_reference : Cert.quiescent_ReferenceIdeal := fun m ρ _ => frame_reference_any m ρ
theorem frame_reference_pre : Cert.quiescent_ReferenceIdeal_pre_partial_products_bounded_ReferenceIdeal := fun m ρ _ => frame_reference_any m ρ
theorem frame_ideal_pre : Cert.quiescent_KernelIdeal_pre_partial_products_bounded_KernelIdeal := fun m ρ _ => frame_any (F := Ideal) m ρ

theorem frame_silu : Cert.quiescent_SiluIdeal := fun m ρ _ =>
  (θ_run Cert.SiluIdeal.defs _ _).mono (fun r h => ⟨fun c => (h c).2, sem_eq_zero_of_no_sems rfl r.2⟩)
    (Cert.SiluIdeal.Value.run (F := Ideal) m ρ)

/-! ## The value claims -/

/-- The kernel's result and the reference's without the clip are one array. -/
theorem algebraic_silu : Cert.algebraic_KernelIdeal_SiluIdeal := by
  intro m ρ m' ρ' _ hargs
  refine ⟨result m, ?_, ?_⟩
  · exact (θ_run Cert.KernelIdeal.defs _ _).mono (fun _ h => h.1) (run_main (F := Ideal) m ρ)
  · refine (θ_run Cert.SiluIdeal.defs _ _).mono (fun _ h => ⟨(h 0).1.trans ?_, (h 0).2⟩) (Cert.SiluIdeal.Value.run (F := Ideal) m' ρ')
    funext i
    refine (silu_term _ _ i).trans ?_
    rw [← total_whole _ _ (argX m) (argW m) (fun c => (hargs c).1) (fun c => (hargs c).2)]
    exact (outV_apply (argX m) (argW m) i).symm

/-- The same of the reference with the clip, where every device's partial product is bounded. -/
theorem algebraic_reference : Cert.algebraic_KernelIdeal_ReferenceIdeal_pre_partial_products_bounded_KernelIdeal := by
  intro m ρ m' ρ' hpre hargs
  refine ⟨result m, ?_, ?_⟩
  · exact (θ_run Cert.KernelIdeal.defs _ _).mono (fun _ h => h.1) (run_main (F := Ideal) m ρ)
  · refine (θ_run Cert.ReferenceIdeal.defs _ _).mono (fun _ h => ⟨(h 0).1.trans ?_, (h 0).2⟩) (Cert.ReferenceIdeal.Value.run (F := Ideal) m' ρ')
    funext i
    have e := total_whole _ _ (argX m) (argW m) (fun c => (hargs c).1) (fun c => (hargs c).2) i
    refine (clip_term _ _ i ?_).trans ?_
    · rw [← e]
      exact total_bounded (argX m) (argW m) hpre i
    · rw [← e]
      exact (outV_apply (argX m) (argW m) i).symm

end Cert.MatSilu

namespace Cert.Proof

theorem claim : Cert.Claim :=
  ⟨Cert.Kernel.Gen.facts, Cert.KernelIdeal.Gen.facts, Cert.ReferenceIdeal.Gen.facts, Cert.SiluIdeal.Gen.facts,
    Cert.Pre_partial_products_bounded_KernelIdeal.Gen.facts, Cert.Pre_partial_products_bounded_ReferenceIdeal.Gen.facts,
    MatSilu.frame_kernel, MatSilu.frame_ideal, MatSilu.frame_ideal_pre, MatSilu.frame_reference, MatSilu.frame_reference_pre,
    MatSilu.frame_silu, trivial, MatSilu.algebraic_silu, MatSilu.algebraic_reference⟩

end Cert.Proof

end
